-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x3584 : Shape := ⟨3, ![3, 512, 3584]⟩
abbrev S3x512 : Shape := ⟨2, ![3, 512]⟩
abbrev S3584 : Shape := ⟨1, ![3584]⟩
abbrev S3584x4608 : Shape := ⟨2, ![3584, 4608]⟩
abbrev S4608 : Shape := ⟨1, ![4608]⟩
abbrev S3x512x4608 : Shape := ⟨3, ![3, 512, 4608]⟩
abbrev S1x3x512 : Shape := ⟨3, ![1, 3, 512]⟩
abbrev S3x3x512 : Shape := ⟨3, ![3, 3, 512]⟩
abbrev S3x12x128 : Shape := ⟨3, ![3, 12, 128]⟩
abbrev S1536x3584 : Shape := ⟨2, ![1536, 3584]⟩
abbrev S1x3584 : Shape := ⟨2, ![1, 3584]⟩
abbrev S1x4608 : Shape := ⟨2, ![1, 4608]⟩
abbrev S1536x4608 : Shape := ⟨2, ![1536, 4608]⟩
abbrev S1536x256 : Shape := ⟨2, ![1536, 256]⟩
abbrev S1x256 : Shape := ⟨2, ![1, 256]⟩
abbrev S256x4608 : Shape := ⟨2, ![256, 4608]⟩
abbrev S14x1536x256 : Shape := ⟨3, ![14, 1536, 256]⟩
abbrev S1536x128 : Shape := ⟨2, ![1536, 128]⟩
abbrev S3x1536x128 : Shape := ⟨3, ![3, 1536, 128]⟩
abbrev S256x1536 : Shape := ⟨2, ![256, 1536]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x1536x256 : Shape := ⟨3, ![1, 1536, 256]⟩
abbrev S8x128 : Shape := ⟨2, ![8, 128]⟩
abbrev S16x8x128 : Shape := ⟨3, ![16, 8, 128]⟩
abbrev S128 : Shape := ⟨1, ![128]⟩
abbrev S1536 : Shape := ⟨1, ![1536]⟩
abbrev S1536x1 : Shape := ⟨2, ![1536, 1]⟩

abbrev nBuf : Space → Nat
  | .hbm => 23
  | .vmem => 24
  | .smem => 0
  | _ => 0

abbrev bufTy : (tb : Table) → Fin (tcTables nBuf tb) → BufTy
  | .hbm, ⟨0, _⟩ => ⟨S3x512x3584, .fp8e4m3⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3584, .f32⟩
  | .hbm, ⟨5, _⟩ => ⟨S3584, .f32⟩
  | .hbm, ⟨6, _⟩ => ⟨S3584x4608, .fp8e4m3⟩
  | .hbm, ⟨7, _⟩ => ⟨S4608, .f32⟩
  | .hbm, ⟨8, _⟩ => ⟨S3x512x4608, .bf16⟩
  | .hbm, ⟨9, _⟩ => ⟨S1x3x512, .f32⟩
  | .hbm, ⟨10, _⟩ => ⟨S1x3x512, .f32⟩
  | .hbm, ⟨11, _⟩ => ⟨S1x3x512, .f32⟩
  | .hbm, ⟨12, _⟩ => ⟨S3x3x512, .f32⟩
  | .hbm, ⟨13, _⟩ => ⟨S3x12x128, .f32⟩
  | .hbm, ⟨14, _⟩ => ⟨S1536x3584, .fp8e4m3⟩
  | .hbm, ⟨15, _⟩ => ⟨S1x3584, .f32⟩
  | .hbm, ⟨16, _⟩ => ⟨S1x3584, .f32⟩
  | .hbm, ⟨17, _⟩ => ⟨S1x4608, .f32⟩
  | .hbm, ⟨18, _⟩ => ⟨S1536x4608, .bf16⟩
  | .hbm, ⟨19, _⟩ => ⟨S1536x3584, .bf16⟩
  | .hbm, ⟨20, _⟩ => ⟨S3584x4608, .f32⟩
  | .hbm, ⟨21, _⟩ => ⟨S1x3584, .f32⟩
  | .hbm, ⟨22, _⟩ => ⟨S1x3584, .f32⟩
  | .local _ .vmem, ⟨0, _⟩ => ⟨S1536x256, .fp8e4m3⟩
  | .local _ .vmem, ⟨1, _⟩ => ⟨S1536x256, .fp8e4m3⟩
  | .local _ .vmem, ⟨2, _⟩ => ⟨S3x12x128, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S256x4608, .fp8e4m3⟩
  | .local _ .vmem, ⟨8, _⟩ => ⟨S256x4608, .fp8e4m3⟩
  | .local _ .vmem, ⟨9, _⟩ => ⟨S1x4608, .f32⟩
  | .local _ .vmem, ⟨10, _⟩ => ⟨S1536x4608, .bf16⟩
  | .local _ .vmem, ⟨11, _⟩ => ⟨S1536x256, .bf16⟩
  | .local _ .vmem, ⟨12, _⟩ => ⟨S1536x256, .bf16⟩
  | .local _ .vmem, ⟨13, _⟩ => ⟨S256x4608, .f32⟩
  | .local _ .vmem, ⟨14, _⟩ => ⟨S256x4608, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S14x1536x256, .f32⟩
  | .local _ .vmem, ⟨20, _⟩ => ⟨S1536x128, .f32⟩
  | .local _ .vmem, ⟨21, _⟩ => ⟨S1536x128, .f32⟩
  | .local _ .vmem, ⟨22, _⟩ => ⟨S3x1536x128, .f32⟩
  | .local _ .vmem, ⟨23, _⟩ => ⟨S256x1536, .bf16⟩
  | _, _ => ⟨S3x512x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c14_i32 : BitVec 32 := 14#32
  let v3 : BitVec 1 := Scalar.cmpi .slt arg0 c14_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v22 : Index := Scalar.indexCast arg0
  let c0_11 : Index := 0#32
  let c0_12 : Index := 0#32
  ![v22.toNat, 0, 0]
def k0_off2 (i : grid0.Coords) : Fin 3 → Nat :=
  let arg0 : BitVec 32 := BitVec.ofNat 32 (i 0).val
  let v42 : Index := Scalar.indexCast arg0
  let c0_26 : Index := 0#32
  let c0_27 : Index := 0#32
  ![v42.toNat, 0, 0]
def k0_off3 (i : grid0.Coords) : Fin 3 → Nat :=
  let arg0 : BitVec 32 := BitVec.ofNat 32 (i 0).val
  let v78 : Index := Scalar.indexCast arg0
  let c128_48 : Index := 128#32
  let c0_49 : Index := 0#32
  ![v78.toNat, 128, 0]
def k0_off4 (i : grid0.Coords) : Fin 3 → Nat :=
  let arg0 : BitVec 32 := BitVec.ofNat 32 (i 0).val
  let v114 : Index := Scalar.indexCast arg0
  let c256_70 : Index := 256#32
  let c0_71 : Index := 0#32
  ![v114.toNat, 256, 0]
def k0_off5 (i : grid0.Coords) : Fin 3 → Nat :=
  let arg0 : BitVec 32 := BitVec.ofNat 32 (i 0).val
  let v150 : Index := Scalar.indexCast arg0
  let c384_92 : Index := 384#32
  let c0_93 : Index := 0#32
  ![v150.toNat, 384, 0]
def k0_off6 (i : grid0.Coords) : Fin 3 → Nat :=
  let arg0 : BitVec 32 := BitVec.ofNat 32 (i 0).val
  let v186 : Index := Scalar.indexCast arg0
  let c512_114 : Index := 512#32
  let c0_115 : Index := 0#32
  ![v186.toNat, 512, 0]
def k0_off7 (i : grid0.Coords) : Fin 3 → Nat :=
  let arg0 : BitVec 32 := BitVec.ofNat 32 (i 0).val
  let v222 : Index := Scalar.indexCast arg0
  let c640_136 : Index := 640#32
  let c0_137 : Index := 0#32
  ![v222.toNat, 640, 0]
def k0_off8 (i : grid0.Coords) : Fin 3 → Nat :=
  let arg0 : BitVec 32 := BitVec.ofNat 32 (i 0).val
  let v258 : Index := Scalar.indexCast arg0
  let c768_158 : Index := 768#32
  let c0_159 : Index := 0#32
  ![v258.toNat, 768, 0]
def k0_off9 (i : grid0.Coords) : Fin 3 → Nat :=
  let arg0 : BitVec 32 := BitVec.ofNat 32 (i 0).val
  let v294 : Index := Scalar.indexCast arg0
  let c896_180 : Index := 896#32
  let c0_181 : Index := 0#32
  ![v294.toNat, 896, 0]
def k0_off10 (i : grid0.Coords) : Fin 3 → Nat :=
  let arg0 : BitVec 32 := BitVec.ofNat 32 (i 0).val
  let v330 : Index := Scalar.indexCast arg0
  let c1024_202 : Index := 1024#32
  let c0_203 : Index := 0#32
  ![v330.toNat, 1024, 0]
def k0_off11 (i : grid0.Coords) : Fin 3 → Nat :=
  let arg0 : BitVec 32 := BitVec.ofNat 32 (i 0).val
  let v366 : Index := Scalar.indexCast arg0
  let c1152_224 : Index := 1152#32
  let c0_225 : Index := 0#32
  ![v366.toNat, 1152, 0]
def k0_off12 (i : grid0.Coords) : Fin 3 → Nat :=
  let arg0 : BitVec 32 := BitVec.ofNat 32 (i 0).val
  let v402 : Index := Scalar.indexCast arg0
  let c1280_246 : Index := 1280#32
  let c0_247 : Index := 0#32
  ![v402.toNat, 1280, 0]
def k0_off13 (i : grid0.Coords) : Fin 3 → Nat :=
  let arg0 : BitVec 32 := BitVec.ofNat 32 (i 0).val
  let v438 : Index := Scalar.indexCast arg0
  let c1408_268 : Index := 1408#32
  let c0_269 : Index := 0#32
  ![v438.toNat, 1408, 0]
def k0_off14 (i : grid0.Coords) : Fin 3 → Nat :=
  let arg0 : BitVec 32 := BitVec.ofNat 32 (i 0).val
  let v484 : Index := Scalar.indexCast arg0
  let c0_301 : Index := 0#32
  let c128_302 : Index := 128#32
  ![v484.toNat, 0, 128]
def k0_off15 (i : grid0.Coords) : Fin 3 → Nat :=
  let arg0 : BitVec 32 := BitVec.ofNat 32 (i 0).val
  let v520 : Index := Scalar.indexCast arg0
  let c128_324 : Index := 128#32
  let c128_325 : Index := 128#32
  ![v520.toNat, 128, 128]
def k0_off16 (i : grid0.Coords) : Fin 3 → Nat :=
  let arg0 : BitVec 32 := BitVec.ofNat 32 (i 0).val
  let v556 : Index := Scalar.indexCast arg0
  let c256_347 : Index := 256#32
  let c128_348 : Index := 128#32
  ![v556.toNat, 256, 128]
def k0_off17 (i : grid0.Coords) : Fin 3 → Nat :=
  let arg0 : BitVec 32 := BitVec.ofNat 32 (i 0).val
  let v592 : Index := Scalar.indexCast arg0
  let c384_370 : Index := 384#32
  let c128_371 : Index := 128#32
  ![v592.toNat, 384, 128]
def k0_off18 (i : grid0.Coords) : Fin 3 → Nat :=
  let arg0 : BitVec 32 := BitVec.ofNat 32 (i 0).val
  let v628 : Index := Scalar.indexCast arg0
  let c512_393 : Index := 512#32
  let c128_394 : Index := 128#32
  ![v628.toNat, 512, 128]
def k0_off19 (i : grid0.Coords) : Fin 3 → Nat :=
  let arg0 : BitVec 32 := BitVec.ofNat 32 (i 0).val
  let v664 : Index := Scalar.indexCast arg0
  let c640_416 : Index := 640#32
  let c128_417 : Index := 128#32
  ![v664.toNat, 640, 128]
def k0_off20 (i : grid0.Coords) : Fin 3 → Nat :=
  let arg0 : BitVec 32 := BitVec.ofNat 32 (i 0).val
  let v700 : Index := Scalar.indexCast arg0
  let c768_439 : Index := 768#32
  let c128_440 : Index := 128#32
  ![v700.toNat, 768, 128]
def k0_off21 (i : grid0.Coords) : Fin 3 → Nat :=
  let arg0 : BitVec 32 := BitVec.ofNat 32 (i 0).val
  let v736 : Index := Scalar.indexCast arg0
  let c896_462 : Index := 896#32
  let c128_463 : Index := 128#32
  ![v736.toNat, 896, 128]
def k0_off22 (i : grid0.Coords) : Fin 3 → Nat :=
  let arg0 : BitVec 32 := BitVec.ofNat 32 (i 0).val
  let v772 : Index := Scalar.indexCast arg0
  let c1024_485 : Index := 1024#32
  let c128_486 : Index := 128#32
  ![v772.toNat, 1024, 128]
def k0_off23 (i : grid0.Coords) : Fin 3 → Nat :=
  let arg0 : BitVec 32 := BitVec.ofNat 32 (i 0).val
  let v808 : Index := Scalar.indexCast arg0
  let c1152_508 : Index := 1152#32
  let c128_509 : Index := 128#32
  ![v808.toNat, 1152, 128]
def k0_off24 (i : grid0.Coords) : Fin 3 → Nat :=
  let arg0 : BitVec 32 := BitVec.ofNat 32 (i 0).val
  let v844 : Index := Scalar.indexCast arg0
  let c1280_531 : Index := 1280#32
  let c128_532 : Index := 128#32
  ![v844.toNat, 1280, 128]
def k0_off25 (i : grid0.Coords) : Fin 3 → Nat :=
  let arg0 : BitVec 32 := BitVec.ofNat 32 (i 0).val
  let v880 : Index := Scalar.indexCast arg0
  let c1408_554 : Index := 1408#32
  let c128_555 : Index := 128#32
  ![v880.toNat, 1408, 128]
def k0_cond4 (i : grid0.Coords) : BitVec 1 :=
  let arg0 : BitVec 32 := BitVec.ofNat 32 (i 0).val
  let c14_i32_4 : BitVec 32 := 14#32
  let v9 : BitVec 1 := Scalar.cmpi .sge arg0 c14_i32_4
  let v10 : BitVec 32 := Scalar.extui v9
  let c0_i32_5 : BitVec 32 := 0#32
  let v11 : BitVec 1 := Scalar.cmpi .ne v10 c0_i32_5
  v11

def k0_off26 (i : grid0.Coords) : Fin 3 → Nat :=
  let arg0 : BitVec 32 := BitVec.ofNat 32 (i 0).val
  let c14_i32_20 : BitVec 32 := 14#32
  let v37 : BitVec 32 := Scalar.subi arg0 c14_i32_20
  let v38 : Index := Scalar.indexCast v37
  let c0_21 : Index := 0#32
  let c0_22 : Index := 0#32
  ![v38.toNat, 0, 0]
def k0_off27 (i : grid0.Coords) : Fin 3 → Nat :=
  let arg0 : BitVec 32 := BitVec.ofNat 32 (i 0).val
  let c14_i32_44 : BitVec 32 := 14#32
  let v74 : BitVec 32 := Scalar.subi arg0 c14_i32_44
  let v75 : Index := Scalar.indexCast v74
  let c128_45 : Index := 128#32
  let c0_46 : Index := 0#32
  ![v75.toNat, 128, 0]
def k0_off28 (i : grid0.Coords) : Fin 3 → Nat :=
  let arg0 : BitVec 32 := BitVec.ofNat 32 (i 0).val
  let c14_i32_68 : BitVec 32 := 14#32
  let v111 : BitVec 32 := Scalar.subi arg0 c14_i32_68
  let v112 : Index := Scalar.indexCast v111
  let c256_69 : Index := 256#32
  let c0_70 : Index := 0#32
  ![v112.toNat, 256, 0]
def k0_off29 (i : grid0.Coords) : Fin 3 → Nat :=
  let arg0 : BitVec 32 := BitVec.ofNat 32 (i 0).val
  let c14_i32_92 : BitVec 32 := 14#32
  let v148 : BitVec 32 := Scalar.subi arg0 c14_i32_92
  let v149 : Index := Scalar.indexCast v148
  let c384_93 : Index := 384#32
  let c0_94 : Index := 0#32
  ![v149.toNat, 384, 0]
def k0_off30 (i : grid0.Coords) : Fin 3 → Nat :=
  let arg0 : BitVec 32 := BitVec.ofNat 32 (i 0).val
  let c14_i32_116 : BitVec 32 := 14#32
  let v185 : BitVec 32 := Scalar.subi arg0 c14_i32_116
  let v186 : Index := Scalar.indexCast v185
  let c512_117 : Index := 512#32
  let c0_118 : Index := 0#32
  ![v186.toNat, 512, 0]
def k0_off31 (i : grid0.Coords) : Fin 3 → Nat :=
  let arg0 : BitVec 32 := BitVec.ofNat 32 (i 0).val
  let c14_i32_140 : BitVec 32 := 14#32
  let v222 : BitVec 32 := Scalar.subi arg0 c14_i32_140
  let v223 : Index := Scalar.indexCast v222
  let c640_141 : Index := 640#32
  let c0_142 : Index := 0#32
  ![v223.toNat, 640, 0]
def k0_off32 (i : grid0.Coords) : Fin 3 → Nat :=
  let arg0 : BitVec 32 := BitVec.ofNat 32 (i 0).val
  let c14_i32_164 : BitVec 32 := 14#32
  let v259 : BitVec 32 := Scalar.subi arg0 c14_i32_164
  let v260 : Index := Scalar.indexCast v259
  let c768_165 : Index := 768#32
  let c0_166 : Index := 0#32
  ![v260.toNat, 768, 0]
def k0_off33 (i : grid0.Coords) : Fin 3 → Nat :=
  let arg0 : BitVec 32 := BitVec.ofNat 32 (i 0).val
  let c14_i32_188 : BitVec 32 := 14#32
  let v296 : BitVec 32 := Scalar.subi arg0 c14_i32_188
  let v297 : Index := Scalar.indexCast v296
  let c896_189 : Index := 896#32
  let c0_190 : Index := 0#32
  ![v297.toNat, 896, 0]
def k0_off34 (i : grid0.Coords) : Fin 3 → Nat :=
  let arg0 : BitVec 32 := BitVec.ofNat 32 (i 0).val
  let c14_i32_212 : BitVec 32 := 14#32
  let v333 : BitVec 32 := Scalar.subi arg0 c14_i32_212
  let v334 : Index := Scalar.indexCast v333
  let c1024_213 : Index := 1024#32
  let c0_214 : Index := 0#32
  ![v334.toNat, 1024, 0]
def k0_off35 (i : grid0.Coords) : Fin 3 → Nat :=
  let arg0 : BitVec 32 := BitVec.ofNat 32 (i 0).val
  let c14_i32_236 : BitVec 32 := 14#32
  let v370 : BitVec 32 := Scalar.subi arg0 c14_i32_236
  let v371 : Index := Scalar.indexCast v370
  let c1152_237 : Index := 1152#32
  let c0_238 : Index := 0#32
  ![v371.toNat, 1152, 0]
def k0_off36 (i : grid0.Coords) : Fin 3 → Nat :=
  let arg0 : BitVec 32 := BitVec.ofNat 32 (i 0).val
  let c14_i32_260 : BitVec 32 := 14#32
  let v407 : BitVec 32 := Scalar.subi arg0 c14_i32_260
  let v408 : Index := Scalar.indexCast v407
  let c1280_261 : Index := 1280#32
  let c0_262 : Index := 0#32
  ![v408.toNat, 1280, 0]
def k0_off37 (i : grid0.Coords) : Fin 3 → Nat :=
  let arg0 : BitVec 32 := BitVec.ofNat 32 (i 0).val
  let c14_i32_284 : BitVec 32 := 14#32
  let v444 : BitVec 32 := Scalar.subi arg0 c14_i32_284
  let v445 : Index := Scalar.indexCast v444
  let c1408_285 : Index := 1408#32
  let c0_286 : Index := 0#32
  ![v445.toNat, 1408, 0]
def k0_off38 (i : grid0.Coords) : Fin 3 → Nat :=
  let arg0 : BitVec 32 := BitVec.ofNat 32 (i 0).val
  let c14_i32_313 : BitVec 32 := 14#32
  let v485 : BitVec 32 := Scalar.subi arg0 c14_i32_313
  let v486 : Index := Scalar.indexCast v485
  let c0_314 : Index := 0#32
  let c128_315 : Index := 128#32
  ![v486.toNat, 0, 128]
def k0_off39 (i : grid0.Coords) : Fin 3 → Nat :=
  let arg0 : BitVec 32 := BitVec.ofNat 32 (i 0).val
  let c14_i32_338 : BitVec 32 := 14#32
  let v522 : BitVec 32 := Scalar.subi arg0 c14_i32_338
  let v523 : Index := Scalar.indexCast v522
  let c128_339 : Index := 128#32
  let c128_340 : Index := 128#32
  ![v523.toNat, 128, 128]
def k0_off40 (i : grid0.Coords) : Fin 3 → Nat :=
  let arg0 : BitVec 32 := BitVec.ofNat 32 (i 0).val
  let c14_i32_363 : BitVec 32 := 14#32
  let v559 : BitVec 32 := Scalar.subi arg0 c14_i32_363
  let v560 : Index := Scalar.indexCast v559
  let c256_364 : Index := 256#32
  let c128_365 : Index := 128#32
  ![v560.toNat, 256, 128]
def k0_off41 (i : grid0.Coords) : Fin 3 → Nat :=
  let arg0 : BitVec 32 := BitVec.ofNat 32 (i 0).val
  let c14_i32_388 : BitVec 32 := 14#32
  let v596 : BitVec 32 := Scalar.subi arg0 c14_i32_388
  let v597 : Index := Scalar.indexCast v596
  let c384_389 : Index := 384#32
  let c128_390 : Index := 128#32
  ![v597.toNat, 384, 128]
def k0_off42 (i : grid0.Coords) : Fin 3 → Nat :=
  let arg0 : BitVec 32 := BitVec.ofNat 32 (i 0).val
  let c14_i32_413 : BitVec 32 := 14#32
  let v633 : BitVec 32 := Scalar.subi arg0 c14_i32_413
  let v634 : Index := Scalar.indexCast v633
  let c512_414 : Index := 512#32
  let c128_415 : Index := 128#32
  ![v634.toNat, 512, 128]
def k0_off43 (i : grid0.Coords) : Fin 3 → Nat :=
  let arg0 : BitVec 32 := BitVec.ofNat 32 (i 0).val
  let c14_i32_438 : BitVec 32 := 14#32
  let v670 : BitVec 32 := Scalar.subi arg0 c14_i32_438
  let v671 : Index := Scalar.indexCast v670
  let c640_439 : Index := 640#32
  let c128_440 : Index := 128#32
  ![v671.toNat, 640, 128]
def k0_off44 (i : grid0.Coords) : Fin 3 → Nat :=
  let arg0 : BitVec 32 := BitVec.ofNat 32 (i 0).val
  let c14_i32_463 : BitVec 32 := 14#32
  let v707 : BitVec 32 := Scalar.subi arg0 c14_i32_463
  let v708 : Index := Scalar.indexCast v707
  let c768_464 : Index := 768#32
  let c128_465 : Index := 128#32
  ![v708.toNat, 768, 128]
def k0_off45 (i : grid0.Coords) : Fin 3 → Nat :=
  let arg0 : BitVec 32 := BitVec.ofNat 32 (i 0).val
  let c14_i32_488 : BitVec 32 := 14#32
  let v744 : BitVec 32 := Scalar.subi arg0 c14_i32_488
  let v745 : Index := Scalar.indexCast v744
  let c896_489 : Index := 896#32
  let c128_490 : Index := 128#32
  ![v745.toNat, 896, 128]
def k0_off46 (i : grid0.Coords) : Fin 3 → Nat :=
  let arg0 : BitVec 32 := BitVec.ofNat 32 (i 0).val
  let c14_i32_513 : BitVec 32 := 14#32
  let v781 : BitVec 32 := Scalar.subi arg0 c14_i32_513
  let v782 : Index := Scalar.indexCast v781
  let c1024_514 : Index := 1024#32
  let c128_515 : Index := 128#32
  ![v782.toNat, 1024, 128]
def k0_off47 (i : grid0.Coords) : Fin 3 → Nat :=
  let arg0 : BitVec 32 := BitVec.ofNat 32 (i 0).val
  let c14_i32_538 : BitVec 32 := 14#32
  let v818 : BitVec 32 := Scalar.subi arg0 c14_i32_538
  let v819 : Index := Scalar.indexCast v818
  let c1152_539 : Index := 1152#32
  let c128_540 : Index := 128#32
  ![v819.toNat, 1152, 128]
def k0_off48 (i : grid0.Coords) : Fin 3 → Nat :=
  let arg0 : BitVec 32 := BitVec.ofNat 32 (i 0).val
  let c14_i32_563 : BitVec 32 := 14#32
  let v855 : BitVec 32 := Scalar.subi arg0 c14_i32_563
  let v856 : Index := Scalar.indexCast v855
  let c1280_564 : Index := 1280#32
  let c128_565 : Index := 128#32
  ![v856.toNat, 1280, 128]
def k0_off49 (i : grid0.Coords) : Fin 3 → Nat :=
  let arg0 : BitVec 32 := BitVec.ofNat 32 (i 0).val
  let c14_i32_588 : BitVec 32 := 14#32
  let v892 : BitVec 32 := Scalar.subi arg0 c14_i32_588
  let v893 : Index := Scalar.indexCast v892
  let c1408_589 : Index := 1408#32
  let c128_590 : Index := 128#32
  ![v893.toNat, 1408, 128]
def cc0_transform_0 (i : grid0.Coords) : Fin 2 → Nat :=
  let arg0 : BitVec 32 := BitVec.ofNat 32 (i 0).val
  let c14_i32 : BitVec 32 := 14#32
  let v0 : BitVec 32 := Scalar.remsi arg0 c14_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c14_i32 : BitVec 32 := 14#32
  let v0 : BitVec 32 := Scalar.remsi arg0 c14_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c14_i32 : BitVec 32 := 14#32
  let v0 : BitVec 32 := Scalar.remsi arg0 c14_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![c0_i32.toNat, v0.toNat]

abbrev stage0_0 : Fin 2 → Memref sig .tc .vmem S1536x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4608 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4608 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x512x3584 : Shape := ⟨3, ![3, 512, 3584]⟩
abbrev S3x512 : Shape := ⟨2, ![3, 512]⟩
abbrev S3584 : Shape := ⟨1, ![3584]⟩
abbrev S3584x4608 : Shape := ⟨2, ![3584, 4608]⟩
abbrev S4608 : Shape := ⟨1, ![4608]⟩
abbrev S3x512x4608 : Shape := ⟨3, ![3, 512, 4608]⟩
abbrev S1536x3584 : Shape := ⟨2, ![1536, 3584]⟩
abbrev S1536x1 : Shape := ⟨2, ![1536, 1]⟩
abbrev S1x3584 : Shape := ⟨2, ![1, 3584]⟩
abbrev S1x4608 : Shape := ⟨2, ![1, 4608]⟩
abbrev S1536x4608 : Shape := ⟨2, ![1536, 4608]⟩
abbrev S1536 : Shape := ⟨1, ![1536]⟩

abbrev nBuf : Space → Nat
  | .hbm => 21
  | .vmem => 13
  | .smem => 0
  | _ => 0

abbrev bufTy : (tb : Table) → Fin (tcTables nBuf tb) → BufTy
  | .hbm, ⟨0, _⟩ => ⟨S3x512x3584, .fp8e4m3⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3584, .f32⟩
  | .hbm, ⟨5, _⟩ => ⟨S3584, .f32⟩
  | .hbm, ⟨6, _⟩ => ⟨S3584x4608, .fp8e4m3⟩
  | .hbm, ⟨7, _⟩ => ⟨S4608, .f32⟩
  | .hbm, ⟨8, _⟩ => ⟨S3x512x4608, .bf16⟩
  | .hbm, ⟨9, _⟩ => ⟨S1536x3584, .fp8e4m3⟩
  | .hbm, ⟨10, _⟩ => ⟨S1536x1, .f32⟩
  | .hbm, ⟨11, _⟩ => ⟨S1536x1, .f32⟩
  | .hbm, ⟨12, _⟩ => ⟨S1536x1, .f32⟩
  | .hbm, ⟨13, _⟩ => ⟨S1x3584, .f32⟩
  | .hbm, ⟨14, _⟩ => ⟨S1x3584, .f32⟩
  | .hbm, ⟨15, _⟩ => ⟨S1x4608, .f32⟩
  | .hbm, ⟨16, _⟩ => ⟨S1536x4608, .bf16⟩
  | .hbm, ⟨17, _⟩ => ⟨S1536x3584, .bf16⟩
  | .hbm, ⟨18, _⟩ => ⟨S3584x4608, .f32⟩
  | .hbm, ⟨19, _⟩ => ⟨S1x3584, .f32⟩
  | .hbm, ⟨20, _⟩ => ⟨S1x3584, .f32⟩
  | .local _ .vmem, ⟨0, _⟩ => ⟨S1536x3584, .fp8e4m3⟩
  | .local _ .vmem, ⟨1, _⟩ => ⟨S1536x1, .f32⟩
  | .local _ .vmem, ⟨2, _⟩ => ⟨S1536x1, .f32⟩
  | .local _ .vmem, ⟨3, _⟩ => ⟨S1536x1, .f32⟩
  | .local _ .vmem, ⟨4, _⟩ => ⟨S1x3584, .f32⟩
  | .local _ .vmem, ⟨5, _⟩ => ⟨S1x3584, .f32⟩
  | .local _ .vmem, ⟨6, _⟩ => ⟨S3584x4608, .fp8e4m3⟩
  | .local _ .vmem, ⟨7, _⟩ => ⟨S1x4608, .f32⟩
  | .local _ .vmem, ⟨8, _⟩ => ⟨S1536x4608, .bf16⟩
  | .local _ .vmem, ⟨9, _⟩ => ⟨S1536x3584, .bf16⟩
  | .local _ .vmem, ⟨10, _⟩ => ⟨S3584x4608, .f32⟩
  | .local _ .vmem, ⟨11, _⟩ => ⟨S1x3584, .f32⟩
  | .local _ .vmem, ⟨12, _⟩ => ⟨S1x3584, .f32⟩
  | _, _ => ⟨S3x512x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x4608 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x4608 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3584x4608 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x3584 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KRegions.lean ====
/- The kernel's body as its four conditional regions: each region is a program of its own, and the body runs them in sequence. -/
module

public import proofs.«01_k».proof.Proof.Gen.Kernel.Skeleton
public import Idealize.ShloMosaic.Lib.Tactic

@[expose] public section

set_option maxRecDepth 65536

noncomputable section

namespace Cert.Kernel.Hand

open Idealize.ShloMosaic Idealize.ShloMosaic.TcCoe
open Idealize.SL Idealize.SL.Sem
open Cert.Kernel Cert.Kernel.Gen

variable {F : FTy → Type} [FloatOps F]

/-- The first conditional of the body, taken at the grid's first point: the three columns broadcast along the lanes and the accumulators set to zero. -/
noncomputable def regInit (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v301 : Vec F S1536x128 .f32 ← Prog.lift (.load arg13 (Rect.unit (s := S1536x128) ![0, 0] S1536x128.size inb_S1536x128_S1536x128_0_0).toLoadRect (View.loadsAt_vmem h_S1536x128))
  Prog.lift (.store arg13 (Rect.unit (s := S1536x128) ![0, 0] S1536x128.size inb_S1536x128_S1536x128_0_0) (k0_pay1 (F := F)) Finset.univ (View.stores_vmem_bits_univ h_S1536x128 rfl) (.inl rfl))
  let v305 : Vec F S1536x128 .f32 ← Prog.lift (.load arg14 (Rect.unit (s := S1536x128) ![0, 0] S1536x128.size inb_S1536x128_S1536x128_0_0).toLoadRect (View.loadsAt_vmem h_S1536x128))
  Prog.lift (.store arg14 (Rect.unit (s := S1536x128) ![0, 0] S1536x128.size inb_S1536x128_S1536x128_0_0) (k0_pay2 (F := F)) Finset.univ (View.stores_vmem_bits_univ h_S1536x128 rfl) (.inl rfl))
  pure ⟨⟩

/-- The second conditional, taken at the first fourteen points: one block of the first pass. -/
noncomputable def regPass1 (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (k0_h2 : k0_cond2 i = 1#1) :
    Prog (TpuEff nD τ sig (Elt F) Λ₀ .tc) PUnit := do
  let arg0 : BitVec 32 := BitVec.ofNat 32 (i 0).val
  let ⟨v27, v28, v29, v41, v44⟩ : Σ' (v27 : FVec F S1x128 .f32) (v28 : FVec F S8x128 .f32) (v29 : FVec F S8x128 .f32) (v41 : FVec F S128x128 .f32), FVec F S128x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2
  let ⟨v48, v51, v77, v79⟩ : Σ' (v48 : FVec F S8x128 .f32) (v51 : FVec F S8x128 .f32) (v77 : FVec F S128x128 .f32), Vec F S1x128x128 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v28 v29 v41 v44
  let ⟨v84, v87, v113⟩ : Σ' (v84 : FVec F S8x128 .f32) (v87 : FVec F S8x128 .f32), FVec F S128x128 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v27 v48 v51 v77 v79
  let ⟨v120, v123, v149⟩ : Σ' (v120 : FVec F S8x128 .f32) (v123 : FVec F S8x128 .f32), FVec F S128x128 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v84 v87 v113
  let ⟨v156, v159, v185⟩ : Σ' (v156 : FVec F S8x128 .f32) (v159 : FVec F S8x128 .f32), FVec F S128x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v120 v123 v149
  let ⟨v192, v195, v221⟩ : Σ' (v192 : FVec F S8x128 .f32) (v195 : FVec F S8x128 .f32), FVec F S128x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v27 v156 v159 v185
  let ⟨v228, v231, v251, v256⟩ : Σ' (v228 : FVec F S8x128 .f32) (v231 : FVec F S8x128 .f32) (v251 : FVec F S128x128 .f32), FVec F S128x128 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v192 v195 v221
  let ⟨v264, v267, v285, v287, v291⟩ : Σ' (v264 : FVec F S8x128 .f32) (v267 : FVec F S8x128 .f32) (v285 : FVec F S128x128 .f32) (v287 : FVec F S128x128 .f32), FVec F S128x128 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v228 v231 v251 v256
  let ⟨v300, v303, v319, v321, v323, v326⟩ : Σ' (v300 : FVec F S8x128 .f32) (v303 : FVec F S8x128 .f32) (v319 : FVec F S128x128 .f32) (v321 : FVec F S128x128 .f32) (v323 : FVec F S128x128 .f32), FVec F S128x128 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v264 v267 v285 v287 v291
  let ⟨v336, v339, v355, v357, v359, v361⟩ : Σ' (v336 : FVec F S8x128 .f32) (v339 : FVec F S8x128 .f32) (v355 : FVec F S128x128 .f32) (v357 : FVec F S128x128 .f32) (v359 : FVec F S128x128 .f32), FVec F S128x128 .fp8e4m3 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v300 v303 v319 v321 v323 v326
  let ⟨v372, v375, v391, v393, v395, v396⟩ : Σ' (v372 : FVec F S8x128 .f32) (v375 : FVec F S8x128 .f32) (v391 : FVec F S128x128 .f32) (v393 : FVec F S128x128 .f32) (v395 : FVec F S128x128 .f32), Vec F S128x128 .fp8e4m3 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v336 v339 v355 v357 v359 v361
  let ⟨v408, v411, v427, v429, v431⟩ : Σ' (v408 : FVec F S8x128 .f32) (v411 : FVec F S8x128 .f32) (v427 : FVec F S128x128 .f32) (v429 : FVec F S128x128 .f32), FVec F S128x128 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v372 v375 v391 v393 v395 v396
  k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v408 v411 v427 v429 v431
  let ⟨v469, v490, v493, v501, v503⟩ : Σ' (v469 : FVec F S1x128 .f32) (v490 : FVec F S8x128 .f32) (v493 : FVec F S8x128 .f32) (v501 : Vec F S128x128 .f32), FVec F S128x128 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2
  let ⟨v523, v526, v529, v537, v538⟩ : Σ' (v523 : FVec F S128x128 .f32) (v526 : FVec F S8x128 .f32) (v529 : FVec F S8x128 .f32) (v537 : Vec F S128x128 .f32), FVec F S128x128 .f32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v490 v493 v501 v503
  let ⟨v559, v562, v565, v573⟩ : Σ' (v559 : FVec F S128x128 .f32) (v562 : FVec F S8x128 .f32) (v565 : FVec F S8x128 .f32), Vec F S128x128 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v523 v526 v529 v537 v538
  let ⟨v595, v598, v601⟩ : Σ' (v595 : FVec F S128x128 .f32) (v598 : FVec F S8x128 .f32), FVec F S8x128 .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v559 v562 v565 v573
  let ⟨v631, v634, v637⟩ : Σ' (v631 : FVec F S128x128 .f32) (v634 : FVec F S8x128 .f32), FVec F S8x128 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v595 v598 v601
  let ⟨v667, v670, v673⟩ : Σ' (v667 : FVec F S128x128 .f32) (v670 : FVec F S8x128 .f32), FVec F S8x128 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v631 v634 v637
  let ⟨v703, v706, v709, v716⟩ : Σ' (v703 : FVec F S128x128 .f32) (v706 : FVec F S8x128 .f32) (v709 : FVec F S8x128 .f32), FVec F S128x128 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v667 v670 v673
  let ⟨v739, v742, v745, v749⟩ : Σ' (v739 : FVec F S128x128 .f32) (v742 : FVec F S8x128 .f32) (v745 : FVec F S8x128 .f32), FVec F S128x128 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v703 v706 v709 v716
  let ⟨v775, v778, v781, v785, v786⟩ : Σ' (v775 : FVec F S128x128 .f32) (v778 : FVec F S8x128 .f32) (v781 : FVec F S8x128 .f32) (v785 : FVec F S128x128 .f32), Vec F S128x128 .f32 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v739 v742 v745 v749
  let ⟨v811, v814, v817, v821⟩ : Σ' (v811 : FVec F S128x128 .f32) (v814 : FVec F S8x128 .f32) (v817 : FVec F S8x128 .f32), FVec F S128x128 .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v775 v778 v781 v785 v786
  let ⟨v847, v850, v853, v857⟩ : Σ' (v847 : FVec F S128x128 .f32) (v850 : FVec F S8x128 .f32) (v853 : FVec F S8x128 .f32), FVec F S128x128 .f32 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v811 v814 v817 v821
  let ⟨v883, v886, v889, v893⟩ : Σ' (v883 : FVec F S128x128 .f32) (v886 : FVec F S8x128 .f32) (v889 : FVec F S8x128 .f32), FVec F S128x128 .f32 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v847 v850 v853 v857
  let v894 : Vec F S128x128 .f32 ← Prog.lift (.load arg13 (Rect.unit (s := S1536x128) ![1408, 0] S128x128.size inb_S1536x128_S128x128_1408_0).toLoadRect (View.loadsAt_vmem h_S128x128))
  Prog.lift (.store arg13 (Rect.unit (s := S1536x128) ![1408, 0] S128x128.size inb_S1536x128_S128x128_1408_0) (k0_pay3 v893) Finset.univ (View.stores_vmem_bits_univ h_S128x128 rfl) (.inl rfl))
  let v897 : Vec F S128x128 .f32 ← Prog.lift (.load arg14 (Rect.unit (s := S1536x128) ![1408, 0] S128x128.size inb_S1536x128_S128x128_1408_0).toLoadRect (View.loadsAt_vmem h_S128x128))
  let v901 : Vec F S128x128 .f32 ← Prog.lift (.load arg14 (Rect.unit (s := S1536x128) ![1408, 0] S128x128.size inb_S1536x128_S128x128_1408_0).toLoadRect (View.loadsAt_vmem h_S128x128))
  Prog.lift (.store arg14 (Rect.unit (s := S1536x128) ![1408, 0] S128x128.size inb_S1536x128_S128x128_1408_0) (k0_pay4 v469 v883 v897) Finset.univ (View.stores_vmem_bits_univ h_S128x128 rfl) (.inl rfl))
  let v906 : Vec F S1x128 .f32 ← Prog.lift (.load arg10 (Rect.unit (s := S1x256) ![0, 128] S1x128.size inb_S1x256_S1x128_0_128).toLoadRect (View.loadsAt_vmem h_S1x128))
  Prog.lift (.store arg10 (Rect.unit (s := S1x256) ![0, 128] S1x128.size inb_S1x256_S1x128_0_128) (k0_pay5 v886) Finset.univ (View.stores_vmem_bits_univ h_S1x128 rfl) (.inl rfl))
  let v909 : Vec F S1x128 .f32 ← Prog.lift (.load arg11 (Rect.unit (s := S1x256) ![0, 128] S1x128.size inb_S1x256_S1x128_0_128).toLoadRect (View.loadsAt_vmem h_S1x128))
  Prog.lift (.store arg11 (Rect.unit (s := S1x256) ![0, 128] S1x128.size inb_S1x256_S1x128_0_128) (k0_pay6 v889) Finset.univ (View.stores_vmem_bits_univ h_S1x128 rfl) (.inl rfl))
  pure ⟨⟩

/-- The third conditional, taken at point 14: the row sums turned into row means. -/
noncomputable def regMean (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) :
    Prog (TpuEff nD τ sig (Elt F) Λ₀ .tc) PUnit := do
  let v12 : Vec F S1536x128 .f32 ← Prog.lift (.load arg13 (Rect.unit (s := S1536x128) ![0, 0] S1536x128.size inb_S1536x128_S1536x128_0_0).toLoadRect (View.loadsAt_vmem h_S1536x128))
  let v19 : Vec F S1536x128 .f32 ← Prog.lift (.load arg13 (Rect.unit (s := S1536x128) ![0, 0] S1536x128.size inb_S1536x128_S1536x128_0_0).toLoadRect (View.loadsAt_vmem h_S1536x128))
  Prog.lift (.store arg13 (Rect.unit (s := S1536x128) ![0, 0] S1536x128.size inb_S1536x128_S1536x128_0_0) (k0_pay7 v12) Finset.univ (View.stores_vmem_bits_univ h_S1536x128 rfl) (.inl rfl))
  let v22 : Vec F S1536x128 .f32 ← Prog.lift (.load arg14 (Rect.unit (s := S1536x128) ![0, 0] S1536x128.size inb_S1536x128_S1536x128_0_0).toLoadRect (View.loadsAt_vmem h_S1536x128))
  let v29 : Vec F S1536x128 .f32 ← Prog.lift (.load arg14 (Rect.unit (s := S1536x128) ![0, 0] S1536x128.size inb_S1536x128_S1536x128_0_0).toLoadRect (View.loadsAt_vmem h_S1536x128))
  Prog.lift (.store arg14 (Rect.unit (s := S1536x128) ![0, 0] S1536x128.size inb_S1536x128_S1536x128_0_0) (k0_pay8 v22) Finset.univ (View.stores_vmem_bits_univ h_S1536x128 rfl) (.inl rfl))
  pure ⟨⟩

/-- The fourth conditional, taken at the last fourteen points: one block of the second pass. -/
noncomputable def regPass2 (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (k0_h4 : k0_cond4 i = 1#1) :
    Prog (TpuEff nD τ sig (Elt F) Λ₀ .tc) PUnit := do
  let arg0 : BitVec 32 := BitVec.ofNat 32 (i 0).val
  let ⟨v13, v15, v27, v42, v44, v45⟩ : Σ' (v13 : FVec F S1x128 .f32) (v15 : FVec F S1x128 .f32) (v27 : FVec F S128x128 .f32) (v42 : FVec F S128x128 .f32) (v44 : FVec F S128x128 .f32), Vec F S128x128 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4
  let ⟨v64, v77, v79, v80⟩ : Σ' (v64 : FVec F S128x128 .f32) (v77 : FVec F S128x128 .f32) (v79 : FVec F S128x128 .f32), FVec F S128x128 .f32 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v27 v42 v44 v45
  let ⟨v101, v114⟩ : Σ' (v101 : FVec F S128x128 .f32), FVec F S128x128 .f32 ← k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v64 v77 v79 v80
  let v138 : FVec F S128x128 .f32 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v13 v15 v101 v114
  let ⟨v175, c14_i32_116⟩ : Σ' (v175 : FVec F S128x128 .f32), BitVec 32 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h4 v13 v15 v138
  let ⟨v212, v218, v219⟩ : Σ' (v212 : FVec F S128x128 .f32) (v218 : FVec F S128x128 .bf16), Vec F S128x128 .bf16 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v175 c14_i32_116
  let ⟨v249, v254⟩ : Σ' (v249 : FVec F S128x128 .f32), FVec F S128x128 .bf16 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v212 v218 v219
  let ⟨v286, v287⟩ : Σ' (v286 : FVec F S128x128 .f32), FVec F S128x128 .f32 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v249 v254
  let ⟨v313, v315, v317, v320⟩ : Σ' (v313 : FVec F S128x128 .f32) (v315 : FVec F S128x128 .f32) (v317 : FVec F S128x128 .f32), FVec F S128x128 .f32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v286 v287
  let ⟨v350, v352, v354⟩ : Σ' (v350 : FVec F S128x128 .f32) (v352 : FVec F S128x128 .f32), FVec F S128x128 .f32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v313 v315 v317 v320
  let ⟨v387, v389⟩ : Σ' (v387 : FVec F S128x128 .f32), FVec F S128x128 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v350 v352 v354
  let v424 : FVec F S128x128 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v387 v389
  let v461 : FVec F S1x128 .f32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v424
  let ⟨v463, v475, v490, v494, v495⟩ : Σ' (v463 : FVec F S1x128 .f32) (v475 : FVec F S128x128 .f32) (v490 : FVec F S128x128 .f32) (v494 : FVec F S128x128 .f32), Vec F S128x128 .f32 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461
  let ⟨v512, v527, v529, v530⟩ : Σ' (v512 : FVec F S128x128 .f32) (v527 : FVec F S128x128 .f32) (v529 : FVec F S128x128 .f32), Vec F S128x128 .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v475 v490 v494 v495
  let ⟨v549, v562, v564, v565⟩ : Σ' (v549 : FVec F S128x128 .f32) (v562 : FVec F S128x128 .f32) (v564 : FVec F S128x128 .f32), FVec F S128x128 .f32 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v512 v527 v529 v530
  let ⟨v586, v599⟩ : Σ' (v586 : FVec F S128x128 .f32), FVec F S128x128 .f32 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v549 v562 v564 v565
  let v623 : FVec F S128x128 .f32 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v461 v463 v586 v599
  let ⟨v660, c14_i32_438⟩ : Σ' (v660 : FVec F S128x128 .f32), BitVec 32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h4 v461 v463 v623
  let ⟨v697, v703, v704⟩ : Σ' (v697 : FVec F S128x128 .f32) (v703 : FVec F S128x128 .bf16), Vec F S128x128 .bf16 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v660 c14_i32_438
  let ⟨v734, v739⟩ : Σ' (v734 : FVec F S128x128 .f32), FVec F S128x128 .bf16 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v697 v703 v704
  let ⟨v771, v772⟩ : Σ' (v771 : FVec F S128x128 .f32), FVec F S128x128 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v734 v739
  let ⟨v798, v800, v802, v805⟩ : Σ' (v798 : FVec F S128x128 .f32) (v800 : FVec F S128x128 .f32) (v802 : FVec F S128x128 .f32), FVec F S128x128 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v771 v772
  let ⟨v835, v837, v839⟩ : Σ' (v835 : FVec F S128x128 .f32) (v837 : FVec F S128x128 .f32), FVec F S128x128 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v798 v800 v802 v805
  let ⟨v872, v874⟩ : Σ' (v872 : FVec F S128x128 .f32), FVec F S128x128 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v835 v837 v839
  let ⟨v908, v910, cst⟩ : Σ' (v908 : Vec F S256x1536 .bf16) (v910 : FVec F S1536x4608 .bf16), FVec F S256x4608 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v872 v874
  let v912 : Vec F S256x4608 .f32 ← Prog.lift (.load arg9 (Rect.unit (s := S256x4608) ![0, 0] S256x4608.size inb_S256x4608_S256x4608_0_0).toLoadRect (View.loadsAt_vmem h_S256x4608))
  Prog.lift (.store arg9 (Rect.unit (s := S256x4608) ![0, 0] S256x4608.size inb_S256x4608_S256x4608_0_0) (k0_pay9 v908 v910 cst) Finset.univ (View.stores_vmem_bits_univ h_S256x4608 rfl) (.inl rfl))
  pure ⟨⟩

/-- The grid's first point. -/
abbrev isFirst (i : grid0.Coords) : Prop := Scalar.cmpi .ne (Scalar.extui (Scalar.cmpi .eq (BitVec.ofNat 32 (i 0).val) 0#32)) 0#32 = 1#1
/-- The first point of the second pass. -/
abbrev isTurn (i : grid0.Coords) : Prop := Scalar.cmpi .ne (Scalar.extui (Scalar.cmpi .eq (BitVec.ofNat 32 (i 0).val) 14#32)) 0#32 = 1#1

section
variable (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)

/-- At the first point the body fills the columns, then runs a block of the first pass. -/
theorem body_first (h1 : isFirst i) (h2 : k0_cond2 i = 1#1) (h3 : ¬isTurn i) (h4 : ¬k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regInit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => regPass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 := by
  rw [cc0_ln_qkv_bwd_eq_skeleton]
  unfold cc0_ln_qkv_bwd_skel regInit
  simp only [h1, h2, h3, h4, dif_pos, dif_neg, not_false_eq_true, bind_assoc, pure_bind]
  rfl

/-- At the other points of the first pass the body is a block of that pass. -/
theorem body_pass1 (h1 : ¬isFirst i) (h2 : k0_cond2 i = 1#1) (h3 : ¬isTurn i) (h4 : ¬k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regPass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 := by
  rw [cc0_ln_qkv_bwd_eq_skeleton]
  unfold cc0_ln_qkv_bwd_skel
  simp only [h1, h2, h3, h4, dif_pos, dif_neg, not_false_eq_true]
  rfl

/-- At the second pass's first point the body turns the sums into means, then runs a block of the second pass. -/
theorem body_turn (h1 : ¬isFirst i) (h2 : ¬k0_cond2 i = 1#1) (h3 : isTurn i) (h4 : k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regMean (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => regPass2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 := by
  rw [cc0_ln_qkv_bwd_eq_skeleton]
  unfold cc0_ln_qkv_bwd_skel regMean
  simp only [h1, h2, h3, h4, dif_pos, dif_neg, not_false_eq_true, bind_assoc, pure_bind]
  rfl

/-- At the other points of the second pass the body is a block of that pass. -/
theorem body_pass2 (h1 : ¬isFirst i) (h2 : ¬k0_cond2 i = 1#1) (h3 : ¬isTurn i) (h4 : k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regPass2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 := by
  rw [cc0_ln_qkv_bwd_eq_skeleton]
  unfold cc0_ln_qkv_bwd_skel
  simp only [h1, h2, h3, h4, dif_pos, dif_neg, not_false_eq_true]
  rfl

end

end Cert.Kernel.Hand

end
-- ==== Proof.KRunA.lean ====
/- The first pass run once: what its stores leave in each buffer. -/
module

public import proofs.«01_k».proof.Proof.KRegions
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option backward.proofsInPublic true in
set_option maxHeartbeats 4000000 in
/-- The columns filled: what the three scratch buffers hold after it, as lists of stored pieces. -/
def runInit (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x2 : Vec F S3x12x128 .f32) :
    Σ' (L13 : List (View.Piece (Elt F) S1536x128 .f32)) (L14 : List (View.Piece (Elt F) S1536x128 .f32)),
    { L15 : List (View.Piece (Elt F) S3x1536x128 .f32) // ∀ (E : Set ℕ) (K : PUnit → sProp 𝕄),
      iprop(owns (c : Thread nD τ) arg2 fullShare x2 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
      ⊢ wp frame (wpE (defs₀ (F := F)) Variants.none c none) E (regInit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } :=
  ⟨_, _, _, by
  intro E K
  unfold regInit owns
  iintro ⟨⟨%f2, %hf2, H2⟩, ⟨%d13, %f13, -, H13⟩, ⟨%d14, %f14, -, H14⟩, ⟨%d15, %f15, -, H15⟩, Hk⟩
  obtain rfl := harg2.eq_unread hf2
  sl_exec
  sl_step
  iapply Hk
  isplitl [H2]
  · iexists _; isplitr; · ipureintro; exact hf2
    iexact H2
  isplitl [H13]
  · iexists _; iexact H13
  isplitl [H14]
  · iexists _; iexact H14
  iexists _; iexact H15⟩

set_option backward.proofsInPublic true in
set_option maxHeartbeats 4000000 in
/-- A block of the first pass, as lists of stored pieces. -/
def runPass1 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
    (x1 : Vec F S1536x256 .fp8e4m3) (x3 : Vec F S1x256 .f32) (x5 : Vec F S256x4608 .fp8e4m3) (x6 : Vec F S1x4608 .f32) (x7 : Vec F S1536x4608 .bf16) (x15 : Vec F S3x1536x128 .f32) (x12 : Vec F S14x1536x256 .f32) (x13 : Vec F S1536x128 .f32) (x14 : Vec F S1536x128 .f32) :
    Σ' (L12 : List (View.Piece (Elt F) S14x1536x256 .f32)) (L13 : List (View.Piece (Elt F) S1536x128 .f32)) (L14 : List (View.Piece (Elt F) S1536x128 .f32)) (L10 : List (View.Piece (Elt F) S1x256 .f32)),
    { L11 : List (View.Piece (Elt F) S1x256 .f32) // ∀ (E : Set ℕ) (K : PUnit → sProp 𝕄),
      iprop(owns (c : Thread nD τ) arg1 fullShare x1 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg15 fullShare x15 ∗ owns (c : Thread nD τ) arg12 fullShare x12 ∗ owns (c : Thread nD τ) arg13 fullShare x13 ∗ owns (c : Thread nD τ) arg14 fullShare x14 ∗ (∃ d, owns (c : Thread nD τ) arg10 fullShare d) ∗ (∃ d, owns (c : Thread nD τ) arg11 fullShare d)
        ∗ (iprop(owns (c : Thread nD τ) arg1 fullShare x1 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg15 fullShare x15 ∗ (∃ f, ⌜arg12.view.read (Elt F) f = x12⌝ ∗ (arg12.view.loc (c : Thread nD τ) ↦[arg12.view.set]{fullShare} arg12.view.writes (Elt F) f L12)) ∗ (∃ f, ⌜arg13.view.read (Elt F) f = x13⌝ ∗ (arg13.view.loc (c : Thread nD τ) ↦[arg13.view.set]{fullShare} arg13.view.writes (Elt F) f L13)) ∗ (∃ f, ⌜arg14.view.read (Elt F) f = x14⌝ ∗ (arg14.view.loc (c : Thread nD τ) ↦[arg14.view.set]{fullShare} arg14.view.writes (Elt F) f L14)) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
      ⊢ wp frame (wpE (defs₀ (F := F)) Variants.none c none) E (regPass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2) K } :=
  ⟨_, _, _, _, _, by
  intro E K
  unfold regPass1 owns
  iintro ⟨⟨%f1, %hf1, H1⟩, ⟨%f3, %hf3, H3⟩, ⟨%f5, %hf5, H5⟩, ⟨%f6, %hf6, H6⟩, ⟨%f7, %hf7, H7⟩, ⟨%f15, %hf15, H15⟩, ⟨%f12, %hf12, H12⟩, ⟨%f13, %hf13, H13⟩, ⟨%f14, %hf14, H14⟩, ⟨%d10, %f10, -, H10⟩, ⟨%d11, %f11, -, H11⟩, Hk⟩
  obtain rfl := harg1.eq_unread hf1
  obtain rfl := harg3.eq_unread hf3
  obtain rfl := harg5.eq_unread hf5
  obtain rfl := harg6.eq_unread hf6
  obtain rfl := harg7.eq_unread hf7
  obtain rfl := harg15.eq_unread hf15
  obtain rfl := harg12.eq_unread hf12
  obtain rfl := harg13.eq_unread hf13
  obtain rfl := harg14.eq_unread hf14
  sl_exec
  sl_step
  iapply Hk
  isplitl [H1]
  · iexists _; isplitr; · ipureintro; exact hf1
    iexact H1
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H15]
  · iexists _; isplitr; · ipureintro; exact hf15
    iexact H15
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H10]
  · iexists _; iexact H10
  iexists _; iexact H11⟩

end Cert.Kernel.Hand

end
-- ==== Proof.KRunB.lean ====
/- The second pass run once: what its stores leave in each buffer. -/
module

public import proofs.«01_k».proof.Proof.KRegions
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option backward.proofsInPublic true in
set_option maxHeartbeats 4000000 in
/-- The sums turned into means, as lists of stored pieces. -/
def runMean (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x13 : Vec F S1536x128 .f32) (x14 : Vec F S1536x128 .f32) :
    Σ' (L13 : List (View.Piece (Elt F) S1536x128 .f32)),
    { L14 : List (View.Piece (Elt F) S1536x128 .f32) // ∀ (E : Set ℕ) (K : PUnit → sProp 𝕄),
      iprop(owns (c : Thread nD τ) arg13 fullShare x13 ∗ owns (c : Thread nD τ) arg14 fullShare x14
        ∗ (iprop((∃ f, ⌜arg13.view.read (Elt F) f = x13⌝ ∗ (arg13.view.loc (c : Thread nD τ) ↦[arg13.view.set]{fullShare} arg13.view.writes (Elt F) f L13)) ∗ (∃ f, ⌜arg14.view.read (Elt F) f = x14⌝ ∗ (arg14.view.loc (c : Thread nD τ) ↦[arg14.view.set]{fullShare} arg14.view.writes (Elt F) f L14))) -∗ K ⟨⟩))
      ⊢ wp frame (wpE (defs₀ (F := F)) Variants.none c none) E (regMean (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } :=
  ⟨_, _, by
  intro E K
  unfold regMean owns
  iintro ⟨⟨%f13, %hf13, H13⟩, ⟨%f14, %hf14, H14⟩, Hk⟩
  obtain rfl := harg13.eq_unread hf13
  obtain rfl := harg14.eq_unread hf14
  sl_exec
  sl_step
  iapply Hk
  isplitl [H13]
  · iexists _; isplitr; · ipureintro; exact hf13
    iexact H13
  iexists _; isplitr; · ipureintro; exact hf14
  iexact H14⟩

set_option backward.proofsInPublic true in
set_option maxHeartbeats 4000000 in
/-- A block of the second pass, as lists of stored pieces. -/
def runPass2 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
    (x1 : Vec F S1536x256 .fp8e4m3) (x3 : Vec F S1x256 .f32) (x4 : Vec F S1x256 .f32) (x7 : Vec F S1536x4608 .bf16) (x12 : Vec F S14x1536x256 .f32) (x13 : Vec F S1536x128 .f32) (x14 : Vec F S1536x128 .f32) (x15 : Vec F S3x1536x128 .f32) :
    Σ' (L16 : List (View.Piece (Elt F) S256x1536 .bf16)) (L8 : List (View.Piece (Elt F) S1536x256 .bf16)),
    { L9 : List (View.Piece (Elt F) S256x4608 .f32) // ∀ (E : Set ℕ) (K : PUnit → sProp 𝕄),
      iprop(owns (c : Thread nD τ) arg1 fullShare x1 ∗ owns (c : Thread nD τ) arg3 fullShare x3 ∗ owns (c : Thread nD τ) arg4 fullShare x4 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg3 fullShare x3 ∗ owns (c : Thread nD τ) arg4 fullShare x4 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
      ⊢ wp frame (wpE (defs₀ (F := F)) Variants.none c none) E (regPass2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4) K } :=
  ⟨_, _, _, by
  intro E K
  unfold regPass2 owns
  iintro ⟨⟨%f1, %hf1, H1⟩, ⟨%f3, %hf3, H3⟩, ⟨%f4, %hf4, H4⟩, ⟨%f7, %hf7, H7⟩, ⟨%f12, %hf12, H12⟩, ⟨%f13, %hf13, H13⟩, ⟨%f14, %hf14, H14⟩, ⟨%f15, %hf15, H15⟩, ⟨%d16, %f16, -, H16⟩, ⟨%d8, %f8, -, H8⟩, ⟨%d9, %f9, -, H9⟩, Hk⟩
  obtain rfl := harg1.eq_unread hf1
  obtain rfl := harg3.eq_unread hf3
  obtain rfl := harg4.eq_unread hf4
  obtain rfl := harg7.eq_unread hf7
  obtain rfl := harg12.eq_unread hf12
  obtain rfl := harg13.eq_unread hf13
  obtain rfl := harg14.eq_unread hf14
  obtain rfl := harg15.eq_unread hf15
  sl_exec
  sl_step
  iapply Hk
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [H7]
  · iexists _; isplitr; · ipureintro; exact hf7
    iexact H7
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; iexact H16
  isplitl [H8]
  · iexists _; iexact H8
  iexists _; iexact H9⟩

end Cert.Kernel.Hand

end
-- ==== Proof.KBody.lean ====
/- The kernel's body at a grid point: every buffer it is given comes back, the inputs unchanged. -/
module

public import proofs.«01_k».proof.Proof.KRunA
public import proofs.«01_k».proof.Proof.KRunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The body's sixteen buffers, the inputs at their contents and the others at any. -/
def held (c : Dev nD) (arg1 : Memref sig .tc .vmem S1536x256 .fp8e4m3) (arg2 : Memref sig .tc .vmem S3x12x128 .f32) (arg3 : Memref sig .tc .vmem S1x256 .f32) (arg4 : Memref sig .tc .vmem S1x256 .f32) (arg5 : Memref sig .tc .vmem S256x4608 .fp8e4m3) (arg6 : Memref sig .tc .vmem S1x4608 .f32) (arg7 : Memref sig .tc .vmem S1536x4608 .bf16) (arg8 : Memref sig .tc .vmem S1536x256 .bf16) (arg9 : Memref sig .tc .vmem S256x4608 .f32) (arg10 : Memref sig .tc .vmem S1x256 .f32) (arg11 : Memref sig .tc .vmem S1x256 .f32) (arg12 : Memref sig .tc .vmem S14x1536x256 .f32) (arg13 : Memref sig .tc .vmem S1536x128 .f32) (arg14 : Memref sig .tc .vmem S1536x128 .f32) (arg15 : Memref sig .tc .vmem S3x1536x128 .f32) (arg16 : Memref sig .tc .vmem S256x1536 .bf16)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))

/-- Which points take which branch. -/
theorem branches (i : grid0.Coords) : (isFirst i ↔ (i 0).val = 0) ∧ (k0_cond2 i = 1#1 ↔ (i 0).val < 14) ∧ (isTurn i ↔ (i 0).val = 14) ∧ (k0_cond4 i = 1#1 ↔ 14 ≤ (i 0).val) := by
  have key : ∀ n : Fin 28, (Scalar.cmpi .ne (Scalar.extui (Scalar.cmpi .eq (BitVec.ofNat 32 n.val) 0#32)) (0#32 : BitVec 32) = (1#1 : BitVec 1) ↔ n.val = 0)
      ∧ (Scalar.cmpi .ne (Scalar.extui (Scalar.cmpi .slt (BitVec.ofNat 32 n.val) (14#32 : BitVec 32))) (0#32 : BitVec 32) = (1#1 : BitVec 1) ↔ n.val < 14)
      ∧ (Scalar.cmpi .ne (Scalar.extui (Scalar.cmpi .eq (BitVec.ofNat 32 n.val) 14#32)) (0#32 : BitVec 32) = (1#1 : BitVec 1) ↔ n.val = 14)
      ∧ (Scalar.cmpi .ne (Scalar.extui (Scalar.cmpi .sge (BitVec.ofNat 32 n.val) (14#32 : BitVec 32))) (0#32 : BitVec 32) = (1#1 : BitVec 1) ↔ 14 ≤ n.val) := by decide +kernel
  exact key (i 0)

set_option maxHeartbeats 1000000 in
/-- The scratch filled, on the buffers. -/
theorem heldInit (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (regInit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held
  iintro ⟨⟨H1, H2, H3, H4, H5, H6, H7, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩⟩, Hk⟩
  iapply ((runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2).2.2.2 E K)
  isplitl [H2]; · iexact H2
  isplitl [H13]; · iexists _; iexact H13
  isplitl [H14]; · iexists _; iexact H14
  isplitl [H15]; · iexists _; iexact H15
  iintro ⟨H2, ⟨%f13, H13⟩, ⟨%f14, H14⟩, ⟨%f15, H15⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [H9]
  · iexists _
    iexact H9
  isplitl [H10]
  · iexists _
    iexact H10
  isplitl [H11]
  · iexists _
    iexact H11
  isplitl [H12]
  · iexists _
    iexact H12
  isplitl [H13]
  · iexists _
    unfold owns; iexists _; isplitr
    swap; · iexact H13
    ipureintro; exact rfl
  isplitl [H14]
  · iexists _
    unfold owns; iexists _; isplitr
    swap; · iexact H14
    ipureintro; exact rfl
  isplitl [H15]
  · iexists _
    unfold owns; iexists _; isplitr
    swap; · iexact H15
    ipureintro; exact rfl
  iexists _
  iexact H16

set_option maxHeartbeats 1000000 in
/-- A block of the first pass, on the buffers. -/
theorem heldPass1 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (regPass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2) K := by
  unfold held
  iintro ⟨⟨H1, H2, H3, H4, H5, H6, H7, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩⟩, Hk⟩
  iapply ((runPass1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.2.2.2.2 E K)
  isplitl [H1]; · iexact H1
  isplitl [H3]; · iexact H3
  isplitl [H5]; · iexact H5
  isplitl [H6]; · iexact H6
  isplitl [H7]; · iexact H7
  isplitl [H15]; · iexact H15
  isplitl [H12]; · iexact H12
  isplitl [H13]; · iexact H13
  isplitl [H14]; · iexact H14
  isplitl [H10]; · iexists _; iexact H10
  isplitl [H11]; · iexists _; iexact H11
  iintro ⟨H1, H3, H5, H6, H7, H15, ⟨%f12, %hf12, H12⟩, ⟨%f13, %hf13, H13⟩, ⟨%f14, %hf14, H14⟩, ⟨%f10, H10⟩, ⟨%f11, H11⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [H9]
  · iexists _
    iexact H9
  isplitl [H10]
  · iexists _
    unfold owns; iexists _; isplitr
    swap; · iexact H10
    ipureintro; exact rfl
  isplitl [H11]
  · iexists _
    unfold owns; iexists _; isplitr
    swap; · iexact H11
    ipureintro; exact rfl
  isplitl [H12]
  · iexists _
    unfold owns; iexists _; isplitr
    swap; · iexact H12
    ipureintro; exact rfl
  isplitl [H13]
  · iexists _
    unfold owns; iexists _; isplitr
    swap; · iexact H13
    ipureintro; exact rfl
  isplitl [H14]
  · iexists _
    unfold owns; iexists _; isplitr
    swap; · iexact H14
    ipureintro; exact rfl
  isplitl [H15]
  · iexists _
    iexact H15
  iexists _
  iexact H16

set_option maxHeartbeats 1000000 in
/-- The sums turned into means, on the buffers. -/
theorem heldMean (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (regMean (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held
  iintro ⟨⟨H1, H2, H3, H4, H5, H6, H7, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩⟩, Hk⟩
  iapply ((runMean (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x13 x14).2.2 E K)
  isplitl [H13]; · iexact H13
  isplitl [H14]; · iexact H14
  iintro ⟨⟨%f13, %hf13, H13⟩, ⟨%f14, %hf14, H14⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    iexact H8
  isplitl [H9]
  · iexists _
    iexact H9
  isplitl [H10]
  · iexists _
    iexact H10
  isplitl [H11]
  · iexists _
    iexact H11
  isplitl [H12]
  · iexists _
    iexact H12
  isplitl [H13]
  · iexists _
    unfold owns; iexists _; isplitr
    swap; · iexact H13
    ipureintro; exact rfl
  isplitl [H14]
  · iexists _
    unfold owns; iexists _; isplitr
    swap; · iexact H14
    ipureintro; exact rfl
  isplitl [H15]
  · iexists _
    iexact H15
  iexists _
  iexact H16

set_option maxHeartbeats 1000000 in
/-- A block of the second pass, on the buffers. -/
theorem heldPass2 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (regPass2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4) K := by
  unfold held
  iintro ⟨⟨H1, H2, H3, H4, H5, H6, H7, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩⟩, Hk⟩
  iapply ((runPass2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).2.2.2 E K)
  isplitl [H1]; · iexact H1
  isplitl [H3]; · iexact H3
  isplitl [H4]; · iexact H4
  isplitl [H7]; · iexact H7
  isplitl [H12]; · iexact H12
  isplitl [H13]; · iexact H13
  isplitl [H14]; · iexact H14
  isplitl [H15]; · iexact H15
  isplitl [H16]; · iexists _; iexact H16
  isplitl [H8]; · iexists _; iexact H8
  isplitl [H9]; · iexists _; iexact H9
  iintro ⟨H1, H3, H4, H7, H12, H13, H14, H15, ⟨%f16, H16⟩, ⟨%f8, H8⟩, ⟨%f9, H9⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    unfold owns; iexists _; isplitr
    swap; · iexact H8
    ipureintro; exact rfl
  isplitl [H9]
  · iexists _
    unfold owns; iexists _; isplitr
    swap; · iexact H9
    ipureintro; exact rfl
  isplitl [H10]
  · iexists _
    iexact H10
  isplitl [H11]
  · iexists _
    iexact H11
  isplitl [H12]
  · iexists _
    iexact H12
  isplitl [H13]
  · iexists _
    iexact H13
  isplitl [H14]
  · iexists _
    iexact H14
  isplitl [H15]
  · iexists _
    iexact H15
  iexists _
  unfold owns; iexists _; isplitr
  swap; · iexact H16
  ipureintro; exact rfl

/-- The body at the first point. -/
theorem atFirst (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (hi : (i 0).val = 0)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b1.2 (by omega)) (b2.2 (by omega)) (fun h => by have := b3.1 h; omega) (fun h => by have := b4.1 h; omega)]
  rw [wp_bind]
  iintro ⟨H, Hk⟩
  iapply (heldInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 E _)
  isplitl [H]; · iexact H
  iintro H
  iapply (heldPass1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b2.2 (by omega)) x1 x2 x3 x4 x5 x6 x7 E _)
  isplitl [H]; · iexact H
  iexact Hk

/-- The body at the other points of the first pass. -/
theorem atPass1 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h0 : (i 0).val ≠ 0) (hi : (i 0).val < 14)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_pass1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => by have := b1.1 h; omega) (b2.2 (by omega)) (fun h => by have := b3.1 h; omega) (fun h => by have := b4.1 h; omega)]
  exact heldPass1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b2.2 (by omega)) x1 x2 x3 x4 x5 x6 x7 E K

/-- The body at the first point of the second pass. -/
theorem atTurn (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (hi : (i 0).val = 14)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_turn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => by have := b1.1 h; omega) (fun h => by have := b2.1 h; omega) (b3.2 (by omega)) (b4.2 (by omega))]
  rw [wp_bind]
  iintro ⟨H, Hk⟩
  iapply (heldMean c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 E _)
  isplitl [H]; · iexact H
  iintro H
  iapply (heldPass2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b4.2 (by omega)) x1 x2 x3 x4 x5 x6 x7 E _)
  isplitl [H]; · iexact H
  iexact Hk

/-- The body at the other points of the second pass. -/
theorem atPass2 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (hi : 14 < (i 0).val)
    (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 ∗ (held c arg1 arg2 arg3 arg4 arg5 arg6 arg7 arg8 arg9 arg10 arg11 arg12 arg13 arg14 arg15 arg16 x1 x2 x3 x4 x5 x6 x7 -∗ K ⟨⟩))
      ⊢ wp frame (wpE (defs₀ (F := F)) Variants.none c none) E (cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_pass2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => by have := b1.1 h; omega) (fun h => by have := b2.1 h; omega) (fun h => by have := b3.1 h; omega) (b4.2 (by omega))]
  exact heldPass2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b4.2 (by omega)) x1 x2 x3 x4 x5 x6 x7 E K

end Cert.Kernel.Hand

end
-- ==== Proof.KFrame.lean ====
/- The certificate that every run of the program ends, its arguments unchanged. -/
module

public import proofs.«01_k».proof.Proof.KBody
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the scratch -/

/-- Window 0's staging buffer at point `t`. -/
abbrev ms0_0 (t : Fin cfg0.N) : Memref sig .tc .vmem S1536x256 .fp8e4m3 := win0_0.stage (cfg0.slots t 0)
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S3x12x128 .f32 := win0_1.stage (cfg0.slots t 1)
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S256x4608 .fp8e4m3 := win0_4.stage (cfg0.slots t 4)
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S1x4608 .f32 := win0_5.stage (cfg0.slots t 5)
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S1536x4608 .bf16 := win0_6.stage (cfg0.slots t 6)
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S1536x256 .bf16 := win0_7.stage (cfg0.slots t 7)
abbrev hs0_7 (t : Fin cfg0.N) : (ms0_7 t).IsWhole := hstage0_7 ((cfg0.slots t 7).cast nbuf0_7)
/-- Window 8's staging buffer at point `t`. -/
abbrev ms0_8 (t : Fin cfg0.N) : Memref sig .tc .vmem S256x4608 .f32 := win0_8.stage (cfg0.slots t 8)
abbrev hs0_8 (t : Fin cfg0.N) : (ms0_8 t).IsWhole := hstage0_8 ((cfg0.slots t 8).cast nbuf0_8)
/-- Window 9's staging buffer at point `t`. -/
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
/-- Window 10's staging buffer at point `t`. -/
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
/-- Scratch buffer 0. -/
abbrev scM0_0 : Memref sig .tc .vmem S14x1536x256 .f32 := Memref.whole cc0_scratch0
/-- Scratch buffer 1. -/
abbrev scM0_1 : Memref sig .tc .vmem S1536x128 .f32 := Memref.whole cc0_scratch1
/-- Scratch buffer 2. -/
abbrev scM0_2 : Memref sig .tc .vmem S1536x128 .f32 := Memref.whole cc0_scratch2
/-- Scratch buffer 3. -/
abbrev scM0_3 : Memref sig .tc .vmem S3x1536x128 .f32 := Memref.whole cc0_scratch3
/-- Scratch buffer 4. -/
abbrev scM0_4 : Memref sig .tc .vmem S256x1536 .bf16 := Memref.whole cc0_scratch4

/-- The scratch and the generator register, at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The pipeline's data -/

/-- The four outputs, of whose contents nothing is said. -/
def forgets0 : Fin 11 → Bool := fun w => decide (7 ≤ w.val)

/-- What is stated of the pipeline on core `c`: the arrays as launched, the inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after0_5]
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  unfold Dat.leavesExact; rw [show cfg0.idle 6 (grid0.coords t) = false from rfl, after0_6]

/-! ## The body at a point -/

/-- The point's own coordinate is its number. -/
theorem coord_val (t : Fin cfg0.N) : (grid0.coords t 0).val = t.val :=
  (by decide +kernel : ∀ t : Fin grid0.N, (grid0.coords t 0).val = t.val) t

/-- The body at any point gives every buffer back. -/
theorem body_held (c : Dev nD) (t : Fin cfg0.N) (x1 : Vec F S1536x256 .fp8e4m3) (x2 : Vec F S3x12x128 .f32) (x3 : Vec F S1x256 .f32) (x4 : Vec F S1x256 .f32) (x5 : Vec F S256x4608 .fp8e4m3) (x6 : Vec F S1x4608 .f32) (x7 : Vec F S1536x4608 .bf16) (E : Set ℕ) (K : PUnit → sProp 𝕄) :
    iprop(held c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 x1 x2 x3 x4 x5 x6 x7
      ∗ (held c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 x1 x2 x3 x4 x5 x6 x7 -∗ K ⟨⟩))
      ⊢ wp frame (wpE (defs₀ (F := F)) Variants.none c none) E (bodyAt0 (F := F) t) K := by
  unfold bodyAt0
  have hv := coord_val t
  rcases Nat.lt_trichotomy (grid0.coords t 0).val 14 with h | h | h
  · by_cases h0 : (grid0.coords t 0).val = 0
    · exact atFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) h0 x1 x2 x3 x4 x5 x6 x7 E K
    · exact atPass1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) h0 h x1 x2 x3 x4 x5 x6 x7 E K
  · exact atTurn c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) h x1 x2 x3 x4 x5 x6 x7 E K
  · exact atPass2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) h x1 x2 x3 x4 x5 x6 x7 E K

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  iapply (body_held c t (iblk m c 0 t) (iblk m c 1 t) (iblk m c 2 t) (iblk m c 3 t) (iblk m c 4 t) (iblk m c 5 t) (iblk m c 6 t) Set.univ _)
  isplitl [H0 H1 H2 H3 H4 H5 H6 H7 H8 H9 H10 HS0 HS1 HS2 HS3 HS4]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iexact HS4
  unfold held
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: every input array unchanged, every buffer outside the pipeline as launched, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- Every run ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 4 rfl).trans ((A_eq m c 4).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main_quiescent m ρ)

end Cert.Kernel.Hand

end
-- ==== Proof.Regions.lean ====
/- The kernel's body as its four conditional regions: each region is a program of its own, and the body runs them in sequence. -/
module

public import proofs.«01_k».proof.Proof.Gen.KernelIdeal.Skeleton
public import Idealize.ShloMosaic.Lib.Tactic

@[expose] public section

set_option maxRecDepth 65536

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The first conditional of the body, taken at the grid's first point: the three columns broadcast along the lanes and the accumulators set to zero. -/
noncomputable def regInit (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v301 : Vec F S1536x128 .f32 ← Prog.lift (.load arg13 (Rect.unit (s := S1536x128) ![0, 0] S1536x128.size inb_S1536x128_S1536x128_0_0).toLoadRect (View.loadsAt_vmem h_S1536x128))
  Prog.lift (.store arg13 (Rect.unit (s := S1536x128) ![0, 0] S1536x128.size inb_S1536x128_S1536x128_0_0) (k0_pay1 (F := F)) Finset.univ (View.stores_vmem_bits_univ h_S1536x128 rfl) (.inl rfl))
  let v305 : Vec F S1536x128 .f32 ← Prog.lift (.load arg14 (Rect.unit (s := S1536x128) ![0, 0] S1536x128.size inb_S1536x128_S1536x128_0_0).toLoadRect (View.loadsAt_vmem h_S1536x128))
  Prog.lift (.store arg14 (Rect.unit (s := S1536x128) ![0, 0] S1536x128.size inb_S1536x128_S1536x128_0_0) (k0_pay2 (F := F)) Finset.univ (View.stores_vmem_bits_univ h_S1536x128 rfl) (.inl rfl))
  pure ⟨⟩

/-- The second conditional, taken at the first fourteen points: one block of the first pass. -/
noncomputable def regPass1 (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (k0_h2 : k0_cond2 i = 1#1) :
    Prog (TpuEff nD τ sig (Elt F) Λ₀ .tc) PUnit := do
  let arg0 : BitVec 32 := BitVec.ofNat 32 (i 0).val
  let ⟨v27, v28, v29, v41, v44⟩ : Σ' (v27 : FVec F S1x128 .f32) (v28 : FVec F S8x128 .f32) (v29 : FVec F S8x128 .f32) (v41 : FVec F S128x128 .f32), FVec F S128x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2
  let ⟨v48, v51, v77, v79⟩ : Σ' (v48 : FVec F S8x128 .f32) (v51 : FVec F S8x128 .f32) (v77 : FVec F S128x128 .f32), Vec F S1x128x128 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v28 v29 v41 v44
  let ⟨v84, v87, v113⟩ : Σ' (v84 : FVec F S8x128 .f32) (v87 : FVec F S8x128 .f32), FVec F S128x128 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v27 v48 v51 v77 v79
  let ⟨v120, v123, v149⟩ : Σ' (v120 : FVec F S8x128 .f32) (v123 : FVec F S8x128 .f32), FVec F S128x128 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v84 v87 v113
  let ⟨v156, v159, v185⟩ : Σ' (v156 : FVec F S8x128 .f32) (v159 : FVec F S8x128 .f32), FVec F S128x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v120 v123 v149
  let ⟨v192, v195, v221⟩ : Σ' (v192 : FVec F S8x128 .f32) (v195 : FVec F S8x128 .f32), FVec F S128x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v27 v156 v159 v185
  let ⟨v228, v231, v251, v256⟩ : Σ' (v228 : FVec F S8x128 .f32) (v231 : FVec F S8x128 .f32) (v251 : FVec F S128x128 .f32), FVec F S128x128 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v192 v195 v221
  let ⟨v264, v267, v285, v287, v291⟩ : Σ' (v264 : FVec F S8x128 .f32) (v267 : FVec F S8x128 .f32) (v285 : FVec F S128x128 .f32) (v287 : FVec F S128x128 .f32), FVec F S128x128 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v228 v231 v251 v256
  let ⟨v300, v303, v319, v321, v323, v326⟩ : Σ' (v300 : FVec F S8x128 .f32) (v303 : FVec F S8x128 .f32) (v319 : FVec F S128x128 .f32) (v321 : FVec F S128x128 .f32) (v323 : FVec F S128x128 .f32), FVec F S128x128 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v264 v267 v285 v287 v291
  let ⟨v336, v339, v355, v357, v359, v361⟩ : Σ' (v336 : FVec F S8x128 .f32) (v339 : FVec F S8x128 .f32) (v355 : FVec F S128x128 .f32) (v357 : FVec F S128x128 .f32) (v359 : FVec F S128x128 .f32), FVec F S128x128 .fp8e4m3 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v300 v303 v319 v321 v323 v326
  let ⟨v372, v375, v391, v393, v395, v396⟩ : Σ' (v372 : FVec F S8x128 .f32) (v375 : FVec F S8x128 .f32) (v391 : FVec F S128x128 .f32) (v393 : FVec F S128x128 .f32) (v395 : FVec F S128x128 .f32), Vec F S128x128 .fp8e4m3 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v336 v339 v355 v357 v359 v361
  let ⟨v408, v411, v427, v429, v431⟩ : Σ' (v408 : FVec F S8x128 .f32) (v411 : FVec F S8x128 .f32) (v427 : FVec F S128x128 .f32) (v429 : FVec F S128x128 .f32), FVec F S128x128 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v372 v375 v391 v393 v395 v396
  k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v27 v408 v411 v427 v429 v431
  let ⟨v469, v490, v493, v501, v503⟩ : Σ' (v469 : FVec F S1x128 .f32) (v490 : FVec F S8x128 .f32) (v493 : FVec F S8x128 .f32) (v501 : Vec F S128x128 .f32), FVec F S128x128 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2
  let ⟨v523, v526, v529, v537, v538⟩ : Σ' (v523 : FVec F S128x128 .f32) (v526 : FVec F S8x128 .f32) (v529 : FVec F S8x128 .f32) (v537 : Vec F S128x128 .f32), FVec F S128x128 .f32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v490 v493 v501 v503
  let ⟨v559, v562, v565, v573⟩ : Σ' (v559 : FVec F S128x128 .f32) (v562 : FVec F S8x128 .f32) (v565 : FVec F S8x128 .f32), Vec F S128x128 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v523 v526 v529 v537 v538
  let ⟨v595, v598, v601⟩ : Σ' (v595 : FVec F S128x128 .f32) (v598 : FVec F S8x128 .f32), FVec F S8x128 .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v559 v562 v565 v573
  let ⟨v631, v634, v637⟩ : Σ' (v631 : FVec F S128x128 .f32) (v634 : FVec F S8x128 .f32), FVec F S8x128 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v595 v598 v601
  let ⟨v667, v670, v673⟩ : Σ' (v667 : FVec F S128x128 .f32) (v670 : FVec F S8x128 .f32), FVec F S8x128 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v631 v634 v637
  let ⟨v703, v706, v709, v716⟩ : Σ' (v703 : FVec F S128x128 .f32) (v706 : FVec F S8x128 .f32) (v709 : FVec F S8x128 .f32), FVec F S128x128 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v667 v670 v673
  let ⟨v739, v742, v745, v749⟩ : Σ' (v739 : FVec F S128x128 .f32) (v742 : FVec F S8x128 .f32) (v745 : FVec F S8x128 .f32), FVec F S128x128 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v703 v706 v709 v716
  let ⟨v775, v778, v781, v785, v786⟩ : Σ' (v775 : FVec F S128x128 .f32) (v778 : FVec F S8x128 .f32) (v781 : FVec F S8x128 .f32) (v785 : FVec F S128x128 .f32), Vec F S128x128 .f32 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v739 v742 v745 v749
  let ⟨v811, v814, v817, v821⟩ : Σ' (v811 : FVec F S128x128 .f32) (v814 : FVec F S8x128 .f32) (v817 : FVec F S8x128 .f32), FVec F S128x128 .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v775 v778 v781 v785 v786
  let ⟨v847, v850, v853, v857⟩ : Σ' (v847 : FVec F S128x128 .f32) (v850 : FVec F S8x128 .f32) (v853 : FVec F S8x128 .f32), FVec F S128x128 .f32 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v811 v814 v817 v821
  let ⟨v883, v886, v889, v893⟩ : Σ' (v883 : FVec F S128x128 .f32) (v886 : FVec F S8x128 .f32) (v889 : FVec F S8x128 .f32), FVec F S128x128 .f32 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h2 v469 v847 v850 v853 v857
  let v894 : Vec F S128x128 .f32 ← Prog.lift (.load arg13 (Rect.unit (s := S1536x128) ![1408, 0] S128x128.size inb_S1536x128_S128x128_1408_0).toLoadRect (View.loadsAt_vmem h_S128x128))
  Prog.lift (.store arg13 (Rect.unit (s := S1536x128) ![1408, 0] S128x128.size inb_S1536x128_S128x128_1408_0) (k0_pay3 v893) Finset.univ (View.stores_vmem_bits_univ h_S128x128 rfl) (.inl rfl))
  let v897 : Vec F S128x128 .f32 ← Prog.lift (.load arg14 (Rect.unit (s := S1536x128) ![1408, 0] S128x128.size inb_S1536x128_S128x128_1408_0).toLoadRect (View.loadsAt_vmem h_S128x128))
  let v901 : Vec F S128x128 .f32 ← Prog.lift (.load arg14 (Rect.unit (s := S1536x128) ![1408, 0] S128x128.size inb_S1536x128_S128x128_1408_0).toLoadRect (View.loadsAt_vmem h_S128x128))
  Prog.lift (.store arg14 (Rect.unit (s := S1536x128) ![1408, 0] S128x128.size inb_S1536x128_S128x128_1408_0) (k0_pay4 v469 v883 v897) Finset.univ (View.stores_vmem_bits_univ h_S128x128 rfl) (.inl rfl))
  let v906 : Vec F S1x128 .f32 ← Prog.lift (.load arg10 (Rect.unit (s := S1x256) ![0, 128] S1x128.size inb_S1x256_S1x128_0_128).toLoadRect (View.loadsAt_vmem h_S1x128))
  Prog.lift (.store arg10 (Rect.unit (s := S1x256) ![0, 128] S1x128.size inb_S1x256_S1x128_0_128) (k0_pay5 v886) Finset.univ (View.stores_vmem_bits_univ h_S1x128 rfl) (.inl rfl))
  let v909 : Vec F S1x128 .f32 ← Prog.lift (.load arg11 (Rect.unit (s := S1x256) ![0, 128] S1x128.size inb_S1x256_S1x128_0_128).toLoadRect (View.loadsAt_vmem h_S1x128))
  Prog.lift (.store arg11 (Rect.unit (s := S1x256) ![0, 128] S1x128.size inb_S1x256_S1x128_0_128) (k0_pay6 v889) Finset.univ (View.stores_vmem_bits_univ h_S1x128 rfl) (.inl rfl))
  pure ⟨⟩

/-- The third conditional, taken at point 14: the row sums turned into row means. -/
noncomputable def regMean (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) :
    Prog (TpuEff nD τ sig (Elt F) Λ₀ .tc) PUnit := do
  let v12 : Vec F S1536x128 .f32 ← Prog.lift (.load arg13 (Rect.unit (s := S1536x128) ![0, 0] S1536x128.size inb_S1536x128_S1536x128_0_0).toLoadRect (View.loadsAt_vmem h_S1536x128))
  let v19 : Vec F S1536x128 .f32 ← Prog.lift (.load arg13 (Rect.unit (s := S1536x128) ![0, 0] S1536x128.size inb_S1536x128_S1536x128_0_0).toLoadRect (View.loadsAt_vmem h_S1536x128))
  Prog.lift (.store arg13 (Rect.unit (s := S1536x128) ![0, 0] S1536x128.size inb_S1536x128_S1536x128_0_0) (k0_pay7 v12) Finset.univ (View.stores_vmem_bits_univ h_S1536x128 rfl) (.inl rfl))
  let v22 : Vec F S1536x128 .f32 ← Prog.lift (.load arg14 (Rect.unit (s := S1536x128) ![0, 0] S1536x128.size inb_S1536x128_S1536x128_0_0).toLoadRect (View.loadsAt_vmem h_S1536x128))
  let v29 : Vec F S1536x128 .f32 ← Prog.lift (.load arg14 (Rect.unit (s := S1536x128) ![0, 0] S1536x128.size inb_S1536x128_S1536x128_0_0).toLoadRect (View.loadsAt_vmem h_S1536x128))
  Prog.lift (.store arg14 (Rect.unit (s := S1536x128) ![0, 0] S1536x128.size inb_S1536x128_S1536x128_0_0) (k0_pay8 v22) Finset.univ (View.stores_vmem_bits_univ h_S1536x128 rfl) (.inl rfl))
  pure ⟨⟩

/-- The fourth conditional, taken at the last fourteen points: one block of the second pass. -/
noncomputable def regPass2 (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (k0_h4 : k0_cond4 i = 1#1) :
    Prog (TpuEff nD τ sig (Elt F) Λ₀ .tc) PUnit := do
  let arg0 : BitVec 32 := BitVec.ofNat 32 (i 0).val
  let ⟨v13, v15, v27, v42, v44, v45⟩ : Σ' (v13 : FVec F S1x128 .f32) (v15 : FVec F S1x128 .f32) (v27 : FVec F S128x128 .f32) (v42 : FVec F S128x128 .f32) (v44 : FVec F S128x128 .f32), Vec F S128x128 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4
  let ⟨v64, v77, v79, v80⟩ : Σ' (v64 : FVec F S128x128 .f32) (v77 : FVec F S128x128 .f32) (v79 : FVec F S128x128 .f32), FVec F S128x128 .f32 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v27 v42 v44 v45
  let ⟨v101, v114⟩ : Σ' (v101 : FVec F S128x128 .f32), FVec F S128x128 .f32 ← k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v64 v77 v79 v80
  let v138 : FVec F S128x128 .f32 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v13 v15 v101 v114
  let ⟨v175, c14_i32_116⟩ : Σ' (v175 : FVec F S128x128 .f32), BitVec 32 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h4 v13 v15 v138
  let ⟨v212, v218, v219⟩ : Σ' (v212 : FVec F S128x128 .f32) (v218 : FVec F S128x128 .bf16), Vec F S128x128 .bf16 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v175 c14_i32_116
  let ⟨v249, v254⟩ : Σ' (v249 : FVec F S128x128 .f32), FVec F S128x128 .bf16 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v212 v218 v219
  let ⟨v286, v287⟩ : Σ' (v286 : FVec F S128x128 .f32), FVec F S128x128 .f32 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v249 v254
  let ⟨v313, v315, v317, v320⟩ : Σ' (v313 : FVec F S128x128 .f32) (v315 : FVec F S128x128 .f32) (v317 : FVec F S128x128 .f32), FVec F S128x128 .f32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v286 v287
  let ⟨v350, v352, v354⟩ : Σ' (v350 : FVec F S128x128 .f32) (v352 : FVec F S128x128 .f32), FVec F S128x128 .f32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v313 v315 v317 v320
  let ⟨v387, v389⟩ : Σ' (v387 : FVec F S128x128 .f32), FVec F S128x128 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v350 v352 v354
  let v424 : FVec F S128x128 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v387 v389
  let v461 : FVec F S1x128 .f32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v13 v15 v424
  let ⟨v463, v475, v490, v494, v495⟩ : Σ' (v463 : FVec F S1x128 .f32) (v475 : FVec F S128x128 .f32) (v490 : FVec F S128x128 .f32) (v494 : FVec F S128x128 .f32), Vec F S128x128 .f32 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461
  let ⟨v512, v527, v529, v530⟩ : Σ' (v512 : FVec F S128x128 .f32) (v527 : FVec F S128x128 .f32) (v529 : FVec F S128x128 .f32), Vec F S128x128 .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v475 v490 v494 v495
  let ⟨v549, v562, v564, v565⟩ : Σ' (v549 : FVec F S128x128 .f32) (v562 : FVec F S128x128 .f32) (v564 : FVec F S128x128 .f32), FVec F S128x128 .f32 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v512 v527 v529 v530
  let ⟨v586, v599⟩ : Σ' (v586 : FVec F S128x128 .f32), FVec F S128x128 .f32 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v549 v562 v564 v565
  let v623 : FVec F S128x128 .f32 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v461 v463 v586 v599
  let ⟨v660, c14_i32_438⟩ : Σ' (v660 : FVec F S128x128 .f32), BitVec 32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h4 v461 v463 v623
  let ⟨v697, v703, v704⟩ : Σ' (v697 : FVec F S128x128 .f32) (v703 : FVec F S128x128 .bf16), Vec F S128x128 .bf16 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v660 c14_i32_438
  let ⟨v734, v739⟩ : Σ' (v734 : FVec F S128x128 .f32), FVec F S128x128 .bf16 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v697 v703 v704
  let ⟨v771, v772⟩ : Σ' (v771 : FVec F S128x128 .f32), FVec F S128x128 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v734 v739
  let ⟨v798, v800, v802, v805⟩ : Σ' (v798 : FVec F S128x128 .f32) (v800 : FVec F S128x128 .f32) (v802 : FVec F S128x128 .f32), FVec F S128x128 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v771 v772
  let ⟨v835, v837, v839⟩ : Σ' (v835 : FVec F S128x128 .f32) (v837 : FVec F S128x128 .f32), FVec F S128x128 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v798 v800 v802 v805
  let ⟨v872, v874⟩ : Σ' (v872 : FVec F S128x128 .f32), FVec F S128x128 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v835 v837 v839
  let ⟨v908, v910, cst⟩ : Σ' (v908 : Vec F S256x1536 .bf16) (v910 : FVec F S1536x4608 .bf16), FVec F S256x4608 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k0_h4 v461 v463 v872 v874
  let v912 : Vec F S256x4608 .f32 ← Prog.lift (.load arg9 (Rect.unit (s := S256x4608) ![0, 0] S256x4608.size inb_S256x4608_S256x4608_0_0).toLoadRect (View.loadsAt_vmem h_S256x4608))
  Prog.lift (.store arg9 (Rect.unit (s := S256x4608) ![0, 0] S256x4608.size inb_S256x4608_S256x4608_0_0) (k0_pay9 v908 v910 cst) Finset.univ (View.stores_vmem_bits_univ h_S256x4608 rfl) (.inl rfl))
  pure ⟨⟩

/-- The grid's first point. -/
abbrev isFirst (i : grid0.Coords) : Prop := Scalar.cmpi .ne (Scalar.extui (Scalar.cmpi .eq (BitVec.ofNat 32 (i 0).val) 0#32)) 0#32 = 1#1
/-- The first point of the second pass. -/
abbrev isTurn (i : grid0.Coords) : Prop := Scalar.cmpi .ne (Scalar.extui (Scalar.cmpi .eq (BitVec.ofNat 32 (i 0).val) 14#32)) 0#32 = 1#1

section
variable (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)

/-- At the first point the body fills the columns, then runs a block of the first pass. -/
theorem body_first (h1 : isFirst i) (h2 : k0_cond2 i = 1#1) (h3 : ¬isTurn i) (h4 : ¬k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regInit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => regPass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 := by
  rw [cc0_ln_qkv_bwd_eq_skeleton]
  unfold cc0_ln_qkv_bwd_skel regInit
  simp only [h1, h2, h3, h4, dif_pos, dif_neg, not_false_eq_true, bind_assoc, pure_bind]
  rfl

/-- At the other points of the first pass the body is a block of that pass. -/
theorem body_pass1 (h1 : ¬isFirst i) (h2 : k0_cond2 i = 1#1) (h3 : ¬isTurn i) (h4 : ¬k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regPass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 := by
  rw [cc0_ln_qkv_bwd_eq_skeleton]
  unfold cc0_ln_qkv_bwd_skel
  simp only [h1, h2, h3, h4, dif_pos, dif_neg, not_false_eq_true]
  rfl

/-- At the second pass's first point the body turns the sums into means, then runs a block of the second pass. -/
theorem body_turn (h1 : ¬isFirst i) (h2 : ¬k0_cond2 i = 1#1) (h3 : isTurn i) (h4 : k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regMean (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => regPass2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 := by
  rw [cc0_ln_qkv_bwd_eq_skeleton]
  unfold cc0_ln_qkv_bwd_skel regMean
  simp only [h1, h2, h3, h4, dif_pos, dif_neg, not_false_eq_true, bind_assoc, pure_bind]
  rfl

/-- At the other points of the second pass the body is a block of that pass. -/
theorem body_pass2 (h1 : ¬isFirst i) (h2 : ¬k0_cond2 i = 1#1) (h3 : ¬isTurn i) (h4 : k0_cond4 i = 1#1) :
    cc0_ln_qkv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = regPass2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 := by
  rw [cc0_ln_qkv_bwd_eq_skeleton]
  unfold cc0_ln_qkv_bwd_skel
  simp only [h1, h2, h3, h4, dif_pos, dif_neg, not_false_eq_true]
  rfl

end

end Cert.KernelIdeal.Hand

end
-- ==== Proof.RunA.lean ====
/- The first pass run once: what its stores leave in each buffer. -/
module

public import proofs.«01_k».proof.Proof.Regions
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option backward.proofsInPublic true in
set_option maxHeartbeats 4000000 in
/-- The columns filled: what the three scratch buffers hold after it, as lists of stored pieces. -/
def runInit (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x2 : Vec F S3x12x128 .f32) :
    Σ' (L13 : List (View.Piece (Elt F) S1536x128 .f32)) (L14 : List (View.Piece (Elt F) S1536x128 .f32)),
    { L15 : List (View.Piece (Elt F) S3x1536x128 .f32) // ∀ (E : Set ℕ) (K : PUnit → sProp 𝕄),
      iprop(owns (c : Thread nD τ) arg2 fullShare x2 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
      ⊢ wp frame (wpE (defs₀ (F := F)) Variants.none c none) E (regInit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } :=
  ⟨_, _, _, by
  intro E K
  unfold regInit owns
  iintro ⟨⟨%f2, %hf2, H2⟩, ⟨%d13, %f13, -, H13⟩, ⟨%d14, %f14, -, H14⟩, ⟨%d15, %f15, -, H15⟩, Hk⟩
  obtain rfl := harg2.eq_unread hf2
  sl_exec
  sl_step
  iapply Hk
  isplitl [H2]
  · iexists _; isplitr; · ipureintro; exact hf2
    iexact H2
  isplitl [H13]
  · iexists _; iexact H13
  isplitl [H14]
  · iexists _; iexact H14
  iexists _; iexact H15⟩

set_option backward.proofsInPublic true in
set_option maxHeartbeats 4000000 in
/-- A block of the first pass, as lists of stored pieces. -/
def runPass1 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
    (x1 : Vec F S1536x256 .fp8e4m3) (x3 : Vec F S1x256 .f32) (x5 : Vec F S256x4608 .fp8e4m3) (x6 : Vec F S1x4608 .f32) (x7 : Vec F S1536x4608 .bf16) (x15 : Vec F S3x1536x128 .f32) (x12 : Vec F S14x1536x256 .f32) (x13 : Vec F S1536x128 .f32) (x14 : Vec F S1536x128 .f32) :
    Σ' (L12 : List (View.Piece (Elt F) S14x1536x256 .f32)) (L13 : List (View.Piece (Elt F) S1536x128 .f32)) (L14 : List (View.Piece (Elt F) S1536x128 .f32)) (L10 : List (View.Piece (Elt F) S1x256 .f32)),
    { L11 : List (View.Piece (Elt F) S1x256 .f32) // ∀ (E : Set ℕ) (K : PUnit → sProp 𝕄),
      iprop(owns (c : Thread nD τ) arg1 fullShare x1 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg15 fullShare x15 ∗ owns (c : Thread nD τ) arg12 fullShare x12 ∗ owns (c : Thread nD τ) arg13 fullShare x13 ∗ owns (c : Thread nD τ) arg14 fullShare x14 ∗ (∃ d, owns (c : Thread nD τ) arg10 fullShare d) ∗ (∃ d, owns (c : Thread nD τ) arg11 fullShare d)
        ∗ (iprop(owns (c : Thread nD τ) arg1 fullShare x1 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg15 fullShare x15 ∗ (∃ f, ⌜arg12.view.read (Elt F) f = x12⌝ ∗ (arg12.view.loc (c : Thread nD τ) ↦[arg12.view.set]{fullShare} arg12.view.writes (Elt F) f L12)) ∗ (∃ f, ⌜arg13.view.read (Elt F) f = x13⌝ ∗ (arg13.view.loc (c : Thread nD τ) ↦[arg13.view.set]{fullShare} arg13.view.writes (Elt F) f L13)) ∗ (∃ f, ⌜arg14.view.read (Elt F) f = x14⌝ ∗ (arg14.view.loc (c : Thread nD τ) ↦[arg14.view.set]{fullShare} arg14.view.writes (Elt F) f L14)) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
      ⊢ wp frame (wpE (defs₀ (F := F)) Variants.none c none) E (regPass1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2) K } :=
  ⟨_, _, _, _, _, by
  intro E K
  unfold regPass1 owns
  iintro ⟨⟨%f1, %hf1, H1⟩, ⟨%f3, %hf3, H3⟩, ⟨%f5, %hf5, H5⟩, ⟨%f6, %hf6, H6⟩, ⟨%f7, %hf7, H7⟩, ⟨%f15, %hf15, H15⟩, ⟨%f12, %hf12, H12⟩, ⟨%f13, %hf13, H13⟩, ⟨%f14, %hf14, H14⟩, ⟨%d10, %f10, -, H10⟩, ⟨%d11, %f11, -, H11⟩, Hk⟩
  obtain rfl := harg1.eq_unread hf1
  obtain rfl := harg3.eq_unread hf3
  obtain rfl := harg5.eq_unread hf5
  obtain rfl := harg6.eq_unread hf6
  obtain rfl := harg7.eq_unread hf7
  obtain rfl := harg15.eq_unread hf15
  obtain rfl := harg12.eq_unread hf12
  obtain rfl := harg13.eq_unread hf13
  obtain rfl := harg14.eq_unread hf14
  sl_exec
  sl_step
  iapply Hk
  isplitl [H1]
  · iexists _; isplitr; · ipureintro; exact hf1
    iexact H1
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H15]
  · iexists _; isplitr; · ipureintro; exact hf15
    iexact H15
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H10]
  · iexists _; iexact H10
  iexists _; iexact H11⟩

end Cert.KernelIdeal.Hand

end
-- ==== Proof.Slabs.lean ====
module
public import proofs.«01_k».proof.Proof.Gen.KernelIdeal.Skeleton
public import Idealize.ShloMosaic.Lib.Pipeline.FrameBody
public import Idealize.ShloMosaic.Lib.Pointwise

@[expose] public section
noncomputable section
namespace Cert.KernelIdeal.Hand
open Idealize.ShloMosaic Idealize.ShloMosaic.TcCoe
open Cert.KernelIdeal Cert.KernelIdeal.Gen

local notation "I" => Idealize.ShloMosaic.Ideal

/-- The stored pieces `L` fill the rows below `a` of an array with the values `G`. -/
def Filled {m n : ℕ} (L : List (View.Piece (Elt I) (⟨2, ![m, n]⟩ : Shape) .f32)) (a : ℕ) (G : Fin m → Fin n → EReal) : Prop :=
  ∀ (r : Fin m) (b : Fin n), r.val < a → (∃ p ∈ L, ix2 r b ∈ p.1.set) ∧ View.canon L (ix2 r b) = G r b

/-- The stored pieces `L` fill an array: the rows below `a` hold `G₁`, the others `G₀`. -/
def Updated {m n : ℕ} (L : List (View.Piece (Elt I) (⟨2, ![m, n]⟩ : Shape) .f32)) (a : ℕ) (G₁ G₀ : Fin m → Fin n → EReal) : Prop :=
  ∀ (r : Fin m) (b : Fin n), (∃ p ∈ L, ix2 r b ∈ p.1.set) ∧ View.canon L (ix2 r b) = if r.val < a then G₁ r b else G₀ r b

theorem Filled.nil {m n : ℕ} (G : Fin m → Fin n → EReal) : Filled [] 0 G := fun _ _ h => absurd h (Nat.not_lt_zero _)

theorem canon_block {m n k : ℕ} (L : List (View.Piece (Elt I) (⟨2, ![m, n]⟩ : Shape) .f32)) (a : ℕ)
    (inb : ∀ x, (![a, 0] : Fin 2 → ℕ) x + (![k, n] : Fin 2 → ℕ) x ≤ (⟨2, ![m, n]⟩ : Shape).size x)
    (P : (⟨2, ![k, n]⟩ : Shape).Idx → EReal) (r : Fin m) (b : Fin n) (h1 : a ≤ r.val) (h2 : r.val < a + k) :
    View.canon ((⟨Rect.unit (s := (⟨2, ![m, n]⟩ : Shape)) ![a, 0] ![k, n] inb, P⟩ : View.Piece (Elt I) (⟨2, ![m, n]⟩ : Shape) .f32) :: L) (ix2 r b)
      = P (ix2 ⟨r.val - a, by omega⟩ b) := by
  have := View.canon_cons_emb (Val := Elt I) (e := .f32) (Rect.unit (s := (⟨2, ![m, n]⟩ : Shape)) ![a, 0] ![k, n] inb) P L (ix2 ⟨r.val - a, by omega⟩ b)
  refine Eq.trans (congrArg _ ?_) this
  funext x
  apply Fin.ext
  fin_cases x
  · show r.val = a + 1 * (r.val - a)
    omega
  · show b.val = 0 + 1 * b.val
    omega

theorem mem_block {m n k : ℕ} (a : ℕ)
    (inb : ∀ x, (![a, 0] : Fin 2 → ℕ) x + (![k, n] : Fin 2 → ℕ) x ≤ (⟨2, ![m, n]⟩ : Shape).size x) (r : Fin m) (b : Fin n) :
    ix2 r b ∈ (Rect.unit (s := (⟨2, ![m, n]⟩ : Shape)) ![a, 0] ![k, n] inb).set ↔ a ≤ r.val ∧ r.val < a + k := by
  rw [Rect.mem_set_unit]
  constructor
  · intro h
    exact h 0
  · intro h x
    fin_cases x
    · exact h
    · exact ⟨Nat.zero_le _, by show b.val < 0 + n; omega⟩

/-- A further block of rows below the ones filled. -/
theorem Filled.push {m n k : ℕ} {L : List (View.Piece (Elt I) (⟨2, ![m, n]⟩ : Shape) .f32)} {a : ℕ} {G : Fin m → Fin n → EReal}
    (inb : ∀ x, (![a, 0] : Fin 2 → ℕ) x + (![k, n] : Fin 2 → ℕ) x ≤ (⟨2, ![m, n]⟩ : Shape).size x)
    {P : (⟨2, ![k, n]⟩ : Shape).Idx → EReal} (hL : Filled L a G)
    (hP : ∀ (u : Fin k) (b : Fin n) (h : a + u.val < m), P (ix2 u b) = G ⟨a + u.val, h⟩ b) :
    Filled ((⟨Rect.unit (s := (⟨2, ![m, n]⟩ : Shape)) ![a, 0] ![k, n] inb, P⟩ : View.Piece (Elt I) (⟨2, ![m, n]⟩ : Shape) .f32) :: L) (a + k) G := by
  intro r b hr
  by_cases h : a ≤ r.val
  · refine ⟨⟨_, List.mem_cons_self, (mem_block a inb r b).2 ⟨h, hr⟩⟩, ?_⟩
    rw [canon_block L a inb P r b h hr, hP _ _ (by show a + (r.val - a) < m; omega)]
    congr 1
    apply Fin.ext
    show a + (r.val - a) = r.val
    omega
  · obtain ⟨⟨p, hp, hm⟩, hc⟩ := hL r b (by omega)
    refine ⟨⟨p, List.mem_cons_of_mem _ hp, hm⟩, ?_⟩
    rw [View.canon_cons_of_not_mem, hc]
    rw [mem_block]
    omega

theorem Filled.updated {m n : ℕ} {L : List (View.Piece (Elt I) (⟨2, ![m, n]⟩ : Shape) .f32)} {a : ℕ} {G : Fin m → Fin n → EReal} (hL : Filled L a G)
    (ha : m ≤ a) (G₁ : Fin m → Fin n → EReal) : Updated L 0 G₁ G := by
  intro r b
  have := hL r b (by omega)
  simpa using this

/-- A further block of rows replaced, its new values computed from the ones it held. -/
theorem Updated.push {m n k : ℕ} {L : List (View.Piece (Elt I) (⟨2, ![m, n]⟩ : Shape) .f32)} {a : ℕ} {G₁ G₀ : Fin m → Fin n → EReal}
    (v : View sig .tc .vmem (⟨2, ![m, n]⟩ : Shape) .f32)
    (inb : ∀ x, (![a, 0] : Fin 2 → ℕ) x + (![k, n] : Fin 2 → ℕ) x ≤ (⟨2, ![m, n]⟩ : Shape).size x)
    {P : (⟨2, ![k, n]⟩ : Shape).Idx → EReal} (hL : Updated L a G₁ G₀)
    (hP : (∀ (u : Fin k) (b : Fin n) (h : a + u.val < m),
        v.readCov (Val := Elt I) L (Rect.unit (s := (⟨2, ![m, n]⟩ : Shape)) ![a, 0] ![k, n] inb).toLoadRect (ix2 u b) = G₀ ⟨a + u.val, h⟩ b) →
      ∀ (u : Fin k) (b : Fin n) (h : a + u.val < m), P (ix2 u b) = G₁ ⟨a + u.val, h⟩ b) :
    Updated ((⟨Rect.unit (s := (⟨2, ![m, n]⟩ : Shape)) ![a, 0] ![k, n] inb, P⟩ : View.Piece (Elt I) (⟨2, ![m, n]⟩ : Shape) .f32) :: L) (a + k) G₁ G₀ := by
  have hv : ∀ (u : Fin k) (b : Fin n) (h : a + u.val < m),
        v.readCov (Val := Elt I) L (Rect.unit (s := (⟨2, ![m, n]⟩ : Shape)) ![a, 0] ![k, n] inb).toLoadRect (ix2 u b) = G₀ ⟨a + u.val, h⟩ b := by
    intro u b h
    rw [View.readCov_eq_canon']
    have h2 := (hL ⟨a + u.val, h⟩ b).2
    rw [if_neg (by show ¬ a + u.val < a; omega)] at h2
    rw [← h2]
    refine congrArg _ ?_
    funext x
    apply Fin.ext
    fin_cases x
    · show a + 1 * u.val = a + u.val
      omega
    · show 0 + 1 * b.val = b.val
      omega
  have hP' := hP hv
  intro r b
  by_cases h : a ≤ r.val ∧ r.val < a + k
  · refine ⟨⟨_, List.mem_cons_self, (mem_block a inb r b).2 h⟩, ?_⟩
    rw [canon_block L a inb P r b h.1 h.2, hP' _ _ (by show a + (r.val - a) < m; omega), if_pos h.2]
    congr 1
    apply Fin.ext
    show a + (r.val - a) = r.val
    omega
  · obtain ⟨⟨p, hp, hm⟩, hc⟩ := hL r b
    refine ⟨⟨p, List.mem_cons_of_mem _ hp, hm⟩, ?_⟩
    rw [View.canon_cons_of_not_mem, hc]
    · split <;> split <;> first | rfl | omega
    · rwa [mem_block]

/-- What a buffer filled by the pieces reads. -/
theorem Updated.read {m n : ℕ} {L : List (View.Piece (Elt I) (⟨2, ![m, n]⟩ : Shape) .f32)} {a : ℕ} {G₁ G₀ : Fin m → Fin n → EReal} (hL : Updated L a G₁ G₀)
    (ha : m ≤ a) (v : View sig .tc .vmem (⟨2, ![m, n]⟩ : Shape) .f32) (f : v.ty.Contents (Elt I)) :
    v.read (Elt I) (v.writes (Elt I) f L) = fun y => G₁ (y 0) (y 1) := by
  have e : ∀ y : (⟨2, ![m, n]⟩ : Shape).Idx, y = ix2 (y 0) (y 1) := by
    intro y
    funext x
    fin_cases x <;> rfl
  rw [View.read_writes_eq_canon v f L (fun y => by rw [e y]; exact (hL (y 0) (y 1)).1)]
  funext y
  have := (hL (y 0) (y 1)).2
  rw [if_pos (by omega)] at this
  exact (congrArg _ (e y)).trans this

/-- A sum over 1536 rows, taken as eight sums over the rows of one residue in twelve blocks of 128. -/
theorem sum_rows (f : Fin 1536 → EReal) :
    ∑ r, f r = ∑ x : Fin 8, ((∑ y : Fin 16, f ⟨y.val * 8 + x.val, by omega⟩) + (∑ y : Fin 16, f ⟨128 + (y.val * 8 + x.val), by omega⟩)
      + (∑ y : Fin 16, f ⟨256 + (y.val * 8 + x.val), by omega⟩) + (∑ y : Fin 16, f ⟨384 + (y.val * 8 + x.val), by omega⟩)
      + (∑ y : Fin 16, f ⟨512 + (y.val * 8 + x.val), by omega⟩) + (∑ y : Fin 16, f ⟨640 + (y.val * 8 + x.val), by omega⟩)
      + (∑ y : Fin 16, f ⟨768 + (y.val * 8 + x.val), by omega⟩) + (∑ y : Fin 16, f ⟨896 + (y.val * 8 + x.val), by omega⟩)
      + (∑ y : Fin 16, f ⟨1024 + (y.val * 8 + x.val), by omega⟩) + (∑ y : Fin 16, f ⟨1152 + (y.val * 8 + x.val), by omega⟩)
      + (∑ y : Fin 16, f ⟨1280 + (y.val * 8 + x.val), by omega⟩) + (∑ y : Fin 16, f ⟨1408 + (y.val * 8 + x.val), by omega⟩)) := by
  have h1 : ∑ r, f r = ∑ k : Fin 12, ∑ z : Fin 128, f ⟨z.val + 128 * k.val, by omega⟩ := by
    rw [← Fintype.sum_prod_type', ← (finProdFinEquiv (m := 12) (n := 128)).sum_comp]
    rfl
  have h2 : ∀ k : Fin 12, ∑ z : Fin 128, f ⟨z.val + 128 * k.val, by omega⟩
      = ∑ x : Fin 8, ∑ y : Fin 16, f ⟨x.val + 8 * y.val + 128 * k.val, by omega⟩ := by
    intro k
    rw [Finset.sum_comm, ← Fintype.sum_prod_type', ← (finProdFinEquiv (m := 16) (n := 8)).sum_comp]
    rfl
  simp only [h1, h2]
  rw [Finset.sum_comm]
  refine Finset.sum_congr rfl fun x _ => ?_
  have h3 : ∀ g : Fin 12 → EReal, ∑ k, g k = g 0 + g 1 + g 2 + g 3 + g 4 + g 5 + g 6 + g 7 + g 8 + g 9 + g 10 + g 11 := by
    intro g
    simp only [Fin.sum_univ_castSucc, Finset.univ_eq_empty, Finset.sum_empty, zero_add]
    rfl
  rw [h3]
  congr 1
  congr 1
  congr 1
  congr 1
  congr 1
  congr 1
  congr 1
  congr 1
  congr 1
  congr 1
  congr 1
  all_goals
    refine Finset.sum_congr rfl fun y _ => congrArg f (Fin.ext ?_)
    norm_num [Fin.val_ofNat]
    omega

/-- The left and the right half of a block's 256 columns. -/
abbrev lo (b : Fin 128) : Fin 256 := ⟨b.val, by omega⟩
abbrev hi (b : Fin 128) : Fin 256 := ⟨128 + b.val, by omega⟩

/-- What a row of 256 reads, of which the two halves were stored. -/
theorem read_halves (v : View sig .tc .vmem S1x256 .f32) (f : v.ty.Contents (Elt I)) (inb0 inb1) (P Q : (⟨2, ![1, 128]⟩ : Shape).Idx → EReal)
    (G : Fin 256 → EReal) (hP : ∀ b : Fin 128, P (ix2 0 b) = G (hi b)) (hQ : ∀ b : Fin 128, Q (ix2 0 b) = G (lo b)) :
    v.read (Elt I) (v.writes (Elt I) f [⟨Rect.unit (s := S1x256) ![0, 128] ![1, 128] inb1, P⟩, ⟨Rect.unit (s := S1x256) ![0, 0] ![1, 128] inb0, Q⟩])
      = fun y => G (y 1) := by
  have hm : ∀ (k : ℕ) (inb) (y : S1x256.Idx), y ∈ (Rect.unit (s := S1x256) ![0, k] ![1, 128] inb).set ↔ k ≤ (y 1).val ∧ (y 1).val < k + 128 := by
    intro k inb y
    rw [Rect.mem_set_unit]
    constructor
    · intro h; exact h 1
    · intro h x
      fin_cases x
      · exact ⟨Nat.zero_le _, (y 0).isLt⟩
      · exact h
  have he : ∀ (k : ℕ) (inb) (y : S1x256.Idx) (h : k ≤ (y 1).val ∧ (y 1).val < k + 128),
     y = (Rect.unit (s := S1x256) ![0, k] ![1, 128] inb).emb (ix2 (0 : Fin 1) (⟨(y 1).val - k, by omega⟩ : Fin 128)) := by
    intro k inb y h
    funext x
    apply Fin.ext
    fin_cases x
    · have : (y 0).val < 1 := (y 0).isLt
      show (y 0).val = 0 + 1 * 0
      omega
    · show (y 1).val = k + 1 * ((y 1).val - k)
      omega
  have hy1 : ∀ y : S1x256.Idx, (y 1).val < 256 := fun y => (y 1).isLt
  rw [View.read_writes_eq_canon v f]
  · funext y
    by_cases h : 128 ≤ (y 1).val
    · have h' : 128 ≤ (y 1).val ∧ (y 1).val < 128 + 128 := ⟨h, hy1 y⟩
      refine (congrArg _ (he 128 inb1 y h')).trans ((View.canon_cons_emb (Val := Elt I) (e := .f32) (Rect.unit (s := S1x256) ![0, 128] ![1, 128] inb1) P [⟨Rect.unit (s := S1x256) ![0, 0] ![1, 128] inb0, Q⟩] _).trans ?_)
      rw [hP]
      congr 1
      apply Fin.ext
      show 128 + ((y 1).val - 128) = (y 1).val
      omega
    · have h' : 0 ≤ (y 1).val ∧ (y 1).val < 0 + 128 := ⟨Nat.zero_le _, by omega⟩
      rw [View.canon_cons_of_not_mem (Val := Elt I)]
      · refine (congrArg _ (he 0 inb0 y h')).trans ((View.canon_cons_emb (Val := Elt I) (e := .f32) (Rect.unit (s := S1x256) ![0, 0] ![1, 128] inb0) Q [] _).trans ?_)
        rw [hQ]
        rfl
      · show y ∉ (Rect.unit (s := S1x256) ![0, 128] ![1, 128] inb1).set
        rw [hm]
        omega
  · intro y
    by_cases h : 128 ≤ (y 1).val
    · exact ⟨_, List.mem_cons_self, (hm 128 inb1 y).2 ⟨h, hy1 y⟩⟩
    · exact ⟨_, List.mem_cons_of_mem _ List.mem_cons_self, (hm 0 inb0 y).2 ⟨Nat.zero_le _, by omega⟩⟩

end Cert.KernelIdeal.Hand
-- ==== Proof.Pass1.lean ====
module
public import proofs.«01_k».proof.Proof.RunA
public import proofs.«01_k».proof.Proof.Slabs
public import Idealize.ShloMosaic.Lib.Pointwise
public import Idealize.ShloMosaic.Lib.WholeRead
public import Idealize.ShloMosaic.Lib.WritesUnit

@[expose] public section
set_option maxRecDepth 16384
noncomputable section
namespace Cert.KernelIdeal.Hand
open Idealize.ShloMosaic Idealize.ShloMosaic.TcCoe
open Cert.KernelIdeal Cert.KernelIdeal.Gen

local notation "I" => Idealize.ShloMosaic.Ideal

/-- The gradient at the normalised input: row `r` of `dq` against row `l` of the scaled weights. -/
def dxhAt (x5 : Vec I S256x4608 .fp8e4m3) (x6 : Vec I S1x4608 .f32) (x7 : Vec I S1536x4608 .bf16) (r : Fin 1536) (l : Fin 256) : EReal :=
  ∑ k : Fin 4608, x7 (ix2 r k) * (x5 (ix2 l k) * x6 (ix2 0 k))

/-- The normalised input, its row's three numbers taken from lane `b`. -/
def nrmAt (x1 : Vec I S1536x256 .fp8e4m3) (x15 : Vec I S3x1536x128 .f32) (r : Fin 1536) (l : Fin 256) (b : Fin 128) : EReal :=
  (x1 (ix2 r l) * x15 (ix3 0 r b) - x15 (ix3 1 r b)) * x15 (ix3 2 r b)

theorem pay46_at (x5 : Vec I S256x4608 .fp8e4m3) (x6 : Vec I S1x4608 .f32) (x7 : Vec I S1536x4608 .bf16) (a : Fin 1536) (b : Fin 256) :
   k0_pay46 x5 x6 x7 (ix3 0 a b) = dxhAt x5 x6 x7 a b := by
  unfold_payloads
  pointwise [dxhAt]

/-- A load of a window of the slab just stored. -/
theorem load12 (v : View sig .tc .vmem S14x1536x256 .f32) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole)
  (x5 : Vec I S256x4608 .fp8e4m3) (x6 : Vec I S1x4608 .f32) (x7 : Vec I S1536x4608 .bf16)
  (n p q : ℕ) (inb1 inb) (i5 i6 i7) (a b : Fin 128) :
    v.readCov (Val := Elt I) [⟨Rect.unit (s := S14x1536x256) ![n, 0, 0] ![1, 1536, 256] inb1,
       k0_pay46 (View.readAt (Elt I) arg5.view (Rect.unit (s := S256x4608) ![0, 0] ![256, 4608] i5).toLoadRect (harg5.unread x5))
            (View.readAt (Elt I) arg6.view (Rect.unit (s := S1x4608) ![0, 0] ![1, 4608] i6).toLoadRect
              (harg6.unread x6))
            (View.readAt (Elt I) arg7.view (Rect.unit (s := S1536x4608) ![0, 0] ![1536, 4608] i7).toLoadRect
              (harg7.unread x7))
    ⟩] (Rect.unit (s := S14x1536x256) ![n, p, q] ![1, 128, 128] inb).toLoadRect (ix3 0 a b)
      = dxhAt x5 x6 x7 ⟨p + a, by
          have h' := inb 1; simp at h'; omega⟩
          ⟨q + b, by
          have h' := inb 2; simp at h'; omega⟩ := by
  rw [View.readCov_eq_canon']
  have := View.canon_cons_emb (Val := Elt I) (e := .f32) (Rect.unit (s := S14x1536x256) ![n, 0, 0] ![1, 1536, 256] inb1) (k0_pay46 (View.readAt (Elt I) arg5.view (Rect.unit (s := S256x4608) ![0, 0] ![256, 4608] i5).toLoadRect (harg5.unread x5))
            (View.readAt (Elt I) arg6.view (Rect.unit (s := S1x4608) ![0, 0] ![1, 4608] i6).toLoadRect
              (harg6.unread x6))
            (View.readAt (Elt I) arg7.view (Rect.unit (s := S1536x4608) ![0, 0] ![1536, 4608] i7).toLoadRect
              (harg7.unread x7))) [] (ix3 0 ⟨p + a, by
          have h' := inb 1; simp at h'; omega⟩
          ⟨q + b, by
          have h' := inb 2; simp at h'; omega⟩)
  refine Eq.trans (congrArg _ ?_) (this.trans ?_)
  · funext k
    apply Fin.ext
    fin_cases k
    · rfl
    · show p + 1 * a.val = 0 + 1 * (p + a.val)
      omega
    · show q + 1 * b.val = 0 + 1 * (q + b.val)
      omega
  · unfold_payloads
    pointwise [dxhAt, Memref.IsWhole.readAt_unread]

/-- The first row sum of a block, added to what was there. -/
def sumG (x3 : Vec I S1x256 .f32) (x5 : Vec I S256x4608 .fp8e4m3) (x6 : Vec I S1x4608 .f32) (x7 : Vec I S1536x4608 .bf16) (x13 : Vec I S1536x128 .f32)
    (r : Fin 1536) (b : Fin 128) : EReal :=
  x13 (ix2 r b) + dxhAt x5 x6 x7 r (lo b) * x3 (ix2 0 (lo b))

/-- A load of a window of the slab that the block has stored. -/
theorem load12' (c : Dev nD) (i : grid0.Coords) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole)
  (h2) (x5 : Vec I S256x4608 .fp8e4m3) (x6 : Vec I S1x4608 .f32) (x7 : Vec I S1536x4608 .bf16) (v : View sig .tc .vmem S14x1536x256 .f32)
  (p q : ℕ) (inb) (a b : Fin 128) :
    v.readCov (Val := Elt I) (runPass1.sl.H12_1 (F := I) c i arg5 harg5 arg6 harg6 arg7 harg7 h2 x5 x6 x7)
       (Rect.unit (s := S14x1536x256) ![BitVec.toNat (Scalar.indexCast (BitVec.ofNat 32 (i 0).val)), p, q] ![1, 128, 128] inb).toLoadRect (ix3 0 a b)
      = dxhAt x5 x6 x7 ⟨p + a, by
          have h' := inb 1; simp at h'; omega⟩
          ⟨q + b, by
          have h' := inb 2; simp at h'; omega⟩ := by
  exact load12 v arg5 harg5 arg6 harg6 arg7 harg7 x5 x6 x7 _ p q _ inb _ _ _ a b

/-- The two row sums of a block's left half, added to what was there. -/
def sumN (x1 : Vec I S1536x256 .fp8e4m3) (x3 : Vec I S1x256 .f32) (x5 : Vec I S256x4608 .fp8e4m3) (x6 : Vec I S1x4608 .f32) (x7 : Vec I S1536x4608 .bf16)
    (x15 : Vec I S3x1536x128 .f32) (x14 : Vec I S1536x128 .f32) (r : Fin 1536) (b : Fin 128) : EReal :=
  x14 (ix2 r b) + dxhAt x5 x6 x7 r (lo b) * nrmAt x1 x15 r (lo b) b * x3 (ix2 0 (lo b))

/-- and of the whole block. -/
def sumG2 (x3 : Vec I S1x256 .f32) (x5 : Vec I S256x4608 .fp8e4m3) (x6 : Vec I S1x4608 .f32) (x7 : Vec I S1536x4608 .bf16) (x13 : Vec I S1536x128 .f32)
    (r : Fin 1536) (b : Fin 128) : EReal :=
  sumG x3 x5 x6 x7 x13 r b + dxhAt x5 x6 x7 r (hi b) * x3 (ix2 0 (hi b))

def sumN2 (x1 : Vec I S1536x256 .fp8e4m3) (x3 : Vec I S1x256 .f32) (x5 : Vec I S256x4608 .fp8e4m3) (x6 : Vec I S1x4608 .f32) (x7 : Vec I S1536x4608 .bf16)
    (x15 : Vec I S3x1536x128 .f32) (x14 : Vec I S1536x128 .f32) (r : Fin 1536) (b : Fin 128) : EReal :=
  sumN x1 x3 x5 x6 x7 x15 x14 r b + dxhAt x5 x6 x7 r (hi b) * nrmAt x1 x15 r (hi b) b * x3 (ix2 0 (hi b))

set_option backward.isDefEq.respectTransparency.types false in
set_option maxHeartbeats 4000000 in
theorem filled13 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) :
    Filled (runPass1.sl.H13_12 (F := I) c i arg3 harg3 arg5 harg5 arg6 harg6 arg7 harg7 arg12 arg13 harg13 h2 x3 x5 x6 x7 x13) 1536 (sumG x3 x5 x6 x7 x13) := by
  refine Filled.push _ (Filled.push _ (Filled.push _ (Filled.push _ (Filled.push _ (Filled.push _ (Filled.push _ (Filled.push _ (Filled.push _ (Filled.push _ (Filled.push _ (Filled.push _ (Filled.nil _) ?_) ?_) ?_) ?_) ?_) ?_) ?_) ?_) ?_) ?_) ?_) ?_
  all_goals
    intro u b h
    simp only [k0_off1, k0_off2, k0_off3, k0_off4, k0_off5, k0_off6, k0_off7, k0_off8, k0_off9, k0_off10, k0_off11, k0_off12, k0_off13, runPass1.sl.r, runPass1.sl.r_1, runPass1.sl.r_10, runPass1.sl.r_11, runPass1.sl.r_12, runPass1.sl.r_13, runPass1.sl.r_14, runPass1.sl.r_15, runPass1.sl.r_16, runPass1.sl.r_17, runPass1.sl.r_18, runPass1.sl.r_19, runPass1.sl.r_2, runPass1.sl.r_20, runPass1.sl.r_21, runPass1.sl.r_22, runPass1.sl.r_23, runPass1.sl.r_24, runPass1.sl.r_25, runPass1.sl.r_26, runPass1.sl.r_27, runPass1.sl.r_28, runPass1.sl.r_29, runPass1.sl.r_3, runPass1.sl.r_30, runPass1.sl.r_31, runPass1.sl.r_32, runPass1.sl.r_33, runPass1.sl.r_34, runPass1.sl.r_35, runPass1.sl.r_36, runPass1.sl.r_37, runPass1.sl.r_38, runPass1.sl.r_39, runPass1.sl.r_4, runPass1.sl.r_40, runPass1.sl.r_41, runPass1.sl.r_42, runPass1.sl.r_43, runPass1.sl.r_44, runPass1.sl.r_45, runPass1.sl.r_46, runPass1.sl.r_47, runPass1.sl.r_48, runPass1.sl.r_49, runPass1.sl.r_5, runPass1.sl.r_50, runPass1.sl.r_51, runPass1.sl.r_52, runPass1.sl.r_53, runPass1.sl.r_54, runPass1.sl.r_55, runPass1.sl.r_56, runPass1.sl.r_57, runPass1.sl.r_58, runPass1.sl.r_59, runPass1.sl.r_6, runPass1.sl.r_60, runPass1.sl.r_61, runPass1.sl.r_62, runPass1.sl.r_63, runPass1.sl.r_64, runPass1.sl.r_65, runPass1.sl.r_66, runPass1.sl.r_67, runPass1.sl.r_68, runPass1.sl.r_69, runPass1.sl.r_7, runPass1.sl.r_70, runPass1.sl.r_71, runPass1.sl.r_72, runPass1.sl.r_73, runPass1.sl.r_74, runPass1.sl.r_75, runPass1.sl.r_76, runPass1.sl.r_77, runPass1.sl.r_78, runPass1.sl.r_79, runPass1.sl.r_8, runPass1.sl.r_80, runPass1.sl.r_81, runPass1.sl.r_82, runPass1.sl.r_83, runPass1.sl.r_84, runPass1.sl.r_85, runPass1.sl.r_86, runPass1.sl.r_87, runPass1.sl.r_88, runPass1.sl.r_89, runPass1.sl.r_9, runPass1.sl.r_90, runPass1.sl.r_91, runPass1.sl.r_92, runPass1.sl.r_93, runPass1.sl.v115, runPass1.sl.v124, runPass1.sl.v131, runPass1.sl.v151, runPass1.sl.v160, runPass1.sl.v167, runPass1.sl.v187, runPass1.sl.v196, runPass1.sl.v203, runPass1.sl.v223, runPass1.sl.v232, runPass1.sl.v239, runPass1.sl.v259, runPass1.sl.v268, runPass1.sl.v275, runPass1.sl.v295, runPass1.sl.v304, runPass1.sl.v311, runPass1.sl.v331, runPass1.sl.v340, runPass1.sl.v347, runPass1.sl.v367, runPass1.sl.v376, runPass1.sl.v383, runPass1.sl.v403, runPass1.sl.v412, runPass1.sl.v419, runPass1.sl.v43, runPass1.sl.v439, runPass1.sl.v448, runPass1.sl.v455, runPass1.sl.v485, runPass1.sl.v494, runPass1.sl.v501, runPass1.sl.v521, runPass1.sl.v530, runPass1.sl.v537, runPass1.sl.v557, runPass1.sl.v566, runPass1.sl.v573, runPass1.sl.v593, runPass1.sl.v602, runPass1.sl.v609, runPass1.sl.v629, runPass1.sl.v638, runPass1.sl.v645, runPass1.sl.v665, runPass1.sl.v674, runPass1.sl.v681, runPass1.sl.v701, runPass1.sl.v710, runPass1.sl.v717, runPass1.sl.v737, runPass1.sl.v746, runPass1.sl.v753, runPass1.sl.v773, runPass1.sl.v782, runPass1.sl.v789, runPass1.sl.v79, runPass1.sl.v809, runPass1.sl.v818, runPass1.sl.v825, runPass1.sl.v845, runPass1.sl.v854, runPass1.sl.v861, runPass1.sl.v88, runPass1.sl.v881, runPass1.sl.v890, runPass1.sl.v897, runPass1.sl.v95]
    unfold_payloads
    pointwise [Memref.IsWhole.readAt_unread, load12', sumG]
    try rfl

set_option backward.isDefEq.respectTransparency.types false in
set_option maxHeartbeats 4000000 in
theorem filled14 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) :
    Filled (runPass1.sl.H14_12 (F := I) c i arg1 harg1 arg3 harg3 arg5 harg5 arg6 harg6 arg7 harg7 arg12 arg14 harg14 arg15 harg15 h2 x1 x3 x5 x6 x7 x15 x14) 1536 (sumN x1 x3 x5 x6 x7 x15 x14) := by
  refine Filled.push _ (Filled.push _ (Filled.push _ (Filled.push _ (Filled.push _ (Filled.push _ (Filled.push _ (Filled.push _ (Filled.push _ (Filled.push _ (Filled.push _ (Filled.push _ (Filled.nil _) ?_) ?_) ?_) ?_) ?_) ?_) ?_) ?_) ?_) ?_) ?_) ?_
  all_goals
    intro u b h
    simp only [k0_off1, k0_off2, k0_off3, k0_off4, k0_off5, k0_off6, k0_off7, k0_off8, k0_off9, k0_off10, k0_off11, k0_off12, k0_off13, runPass1.sl.r, runPass1.sl.r_1, runPass1.sl.r_10, runPass1.sl.r_11, runPass1.sl.r_12, runPass1.sl.r_13, runPass1.sl.r_14, runPass1.sl.r_15, runPass1.sl.r_16, runPass1.sl.r_17, runPass1.sl.r_18, runPass1.sl.r_19, runPass1.sl.r_2, runPass1.sl.r_20, runPass1.sl.r_21, runPass1.sl.r_22, runPass1.sl.r_23, runPass1.sl.r_24, runPass1.sl.r_25, runPass1.sl.r_26, runPass1.sl.r_27, runPass1.sl.r_28, runPass1.sl.r_29, runPass1.sl.r_3, runPass1.sl.r_30, runPass1.sl.r_31, runPass1.sl.r_32, runPass1.sl.r_33, runPass1.sl.r_34, runPass1.sl.r_35, runPass1.sl.r_36, runPass1.sl.r_37, runPass1.sl.r_38, runPass1.sl.r_39, runPass1.sl.r_4, runPass1.sl.r_40, runPass1.sl.r_41, runPass1.sl.r_42, runPass1.sl.r_43, runPass1.sl.r_44, runPass1.sl.r_45, runPass1.sl.r_46, runPass1.sl.r_47, runPass1.sl.r_48, runPass1.sl.r_49, runPass1.sl.r_5, runPass1.sl.r_50, runPass1.sl.r_51, runPass1.sl.r_52, runPass1.sl.r_53, runPass1.sl.r_54, runPass1.sl.r_55, runPass1.sl.r_56, runPass1.sl.r_57, runPass1.sl.r_58, runPass1.sl.r_59, runPass1.sl.r_6, runPass1.sl.r_60, runPass1.sl.r_61, runPass1.sl.r_62, runPass1.sl.r_63, runPass1.sl.r_64, runPass1.sl.r_65, runPass1.sl.r_66, runPass1.sl.r_67, runPass1.sl.r_68, runPass1.sl.r_69, runPass1.sl.r_7, runPass1.sl.r_70, runPass1.sl.r_71, runPass1.sl.r_72, runPass1.sl.r_73, runPass1.sl.r_74, runPass1.sl.r_75, runPass1.sl.r_76, runPass1.sl.r_77, runPass1.sl.r_78, runPass1.sl.r_79, runPass1.sl.r_8, runPass1.sl.r_80, runPass1.sl.r_81, runPass1.sl.r_82, runPass1.sl.r_83, runPass1.sl.r_84, runPass1.sl.r_85, runPass1.sl.r_86, runPass1.sl.r_87, runPass1.sl.r_88, runPass1.sl.r_89, runPass1.sl.r_9, runPass1.sl.r_90, runPass1.sl.r_91, runPass1.sl.r_92, runPass1.sl.r_93, runPass1.sl.v115, runPass1.sl.v124, runPass1.sl.v131, runPass1.sl.v151, runPass1.sl.v160, runPass1.sl.v167, runPass1.sl.v187, runPass1.sl.v196, runPass1.sl.v203, runPass1.sl.v223, runPass1.sl.v232, runPass1.sl.v239, runPass1.sl.v259, runPass1.sl.v268, runPass1.sl.v275, runPass1.sl.v295, runPass1.sl.v304, runPass1.sl.v311, runPass1.sl.v331, runPass1.sl.v340, runPass1.sl.v347, runPass1.sl.v367, runPass1.sl.v376, runPass1.sl.v383, runPass1.sl.v403, runPass1.sl.v412, runPass1.sl.v419, runPass1.sl.v43, runPass1.sl.v439, runPass1.sl.v448, runPass1.sl.v455, runPass1.sl.v485, runPass1.sl.v494, runPass1.sl.v501, runPass1.sl.v521, runPass1.sl.v530, runPass1.sl.v537, runPass1.sl.v557, runPass1.sl.v566, runPass1.sl.v573, runPass1.sl.v593, runPass1.sl.v602, runPass1.sl.v609, runPass1.sl.v629, runPass1.sl.v638, runPass1.sl.v645, runPass1.sl.v665, runPass1.sl.v674, runPass1.sl.v681, runPass1.sl.v701, runPass1.sl.v710, runPass1.sl.v717, runPass1.sl.v737, runPass1.sl.v746, runPass1.sl.v753, runPass1.sl.v773, runPass1.sl.v782, runPass1.sl.v789, runPass1.sl.v79, runPass1.sl.v809, runPass1.sl.v818, runPass1.sl.v825, runPass1.sl.v845, runPass1.sl.v854, runPass1.sl.v861, runPass1.sl.v88, runPass1.sl.v881, runPass1.sl.v890, runPass1.sl.v897, runPass1.sl.v95]
    unfold_payloads
    pointwise [Memref.IsWhole.readAt_unread, load12', sumN, nrmAt]

set_option backward.isDefEq.respectTransparency.types false in
set_option maxHeartbeats 4000000 in
theorem updated13 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) :
    Updated (runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.1 1536 (sumG2 x3 x5 x6 x7 x13) (sumG x3 x5 x6 x7 x13) := by
  refine Updated.push arg13.view _ (Updated.push arg13.view _ (Updated.push arg13.view _ (Updated.push arg13.view _ (Updated.push arg13.view _ (Updated.push arg13.view _ (Updated.push arg13.view _ (Updated.push arg13.view _ (Updated.push arg13.view _ (Updated.push arg13.view _ (Updated.push arg13.view _ (Updated.push arg13.view _ (Filled.updated (filled13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14) (le_refl _) _) ?_) ?_) ?_) ?_) ?_) ?_) ?_) ?_) ?_) ?_) ?_) ?_
  all_goals
    intro hv u b h
    have hv := hv u b h
    have hz : (⟨0 + u.val, by omega⟩ : Fin 1536) = ⟨u.val, by omega⟩ := Fin.ext (Nat.zero_add _)
    simp only [k0_off1, k0_off14, k0_off15, k0_off16, k0_off17, k0_off18, k0_off19, k0_off20, k0_off21, k0_off22, k0_off23, k0_off24, k0_off25, k0_off2, k0_off3, k0_off4, k0_off5, k0_off6, k0_off7, k0_off8, k0_off9, k0_off10, k0_off11, k0_off12, k0_off13, runPass1.sl.r, runPass1.sl.r_1, runPass1.sl.r_10, runPass1.sl.r_11, runPass1.sl.r_12, runPass1.sl.r_13, runPass1.sl.r_14, runPass1.sl.r_15, runPass1.sl.r_16, runPass1.sl.r_17, runPass1.sl.r_18, runPass1.sl.r_19, runPass1.sl.r_2, runPass1.sl.r_20, runPass1.sl.r_21, runPass1.sl.r_22, runPass1.sl.r_23, runPass1.sl.r_24, runPass1.sl.r_25, runPass1.sl.r_26, runPass1.sl.r_27, runPass1.sl.r_28, runPass1.sl.r_29, runPass1.sl.r_3, runPass1.sl.r_30, runPass1.sl.r_31, runPass1.sl.r_32, runPass1.sl.r_33, runPass1.sl.r_34, runPass1.sl.r_35, runPass1.sl.r_36, runPass1.sl.r_37, runPass1.sl.r_38, runPass1.sl.r_39, runPass1.sl.r_4, runPass1.sl.r_40, runPass1.sl.r_41, runPass1.sl.r_42, runPass1.sl.r_43, runPass1.sl.r_44, runPass1.sl.r_45, runPass1.sl.r_46, runPass1.sl.r_47, runPass1.sl.r_48, runPass1.sl.r_49, runPass1.sl.r_5, runPass1.sl.r_50, runPass1.sl.r_51, runPass1.sl.r_52, runPass1.sl.r_53, runPass1.sl.r_54, runPass1.sl.r_55, runPass1.sl.r_56, runPass1.sl.r_57, runPass1.sl.r_58, runPass1.sl.r_59, runPass1.sl.r_6, runPass1.sl.r_60, runPass1.sl.r_61, runPass1.sl.r_62, runPass1.sl.r_63, runPass1.sl.r_64, runPass1.sl.r_65, runPass1.sl.r_66, runPass1.sl.r_67, runPass1.sl.r_68, runPass1.sl.r_69, runPass1.sl.r_7, runPass1.sl.r_70, runPass1.sl.r_71, runPass1.sl.r_72, runPass1.sl.r_73, runPass1.sl.r_74, runPass1.sl.r_75, runPass1.sl.r_76, runPass1.sl.r_77, runPass1.sl.r_78, runPass1.sl.r_79, runPass1.sl.r_8, runPass1.sl.r_80, runPass1.sl.r_81, runPass1.sl.r_82, runPass1.sl.r_83, runPass1.sl.r_84, runPass1.sl.r_85, runPass1.sl.r_86, runPass1.sl.r_87, runPass1.sl.r_88, runPass1.sl.r_89, runPass1.sl.r_9, runPass1.sl.r_90, runPass1.sl.r_91, runPass1.sl.r_92, runPass1.sl.r_93, runPass1.sl.v115, runPass1.sl.v124, runPass1.sl.v131, runPass1.sl.v151, runPass1.sl.v160, runPass1.sl.v167, runPass1.sl.v187, runPass1.sl.v196, runPass1.sl.v203, runPass1.sl.v223, runPass1.sl.v232, runPass1.sl.v239, runPass1.sl.v259, runPass1.sl.v268, runPass1.sl.v275, runPass1.sl.v295, runPass1.sl.v304, runPass1.sl.v311, runPass1.sl.v331, runPass1.sl.v340, runPass1.sl.v347, runPass1.sl.v367, runPass1.sl.v376, runPass1.sl.v383, runPass1.sl.v403, runPass1.sl.v412, runPass1.sl.v419, runPass1.sl.v43, runPass1.sl.v439, runPass1.sl.v448, runPass1.sl.v455, runPass1.sl.v485, runPass1.sl.v494, runPass1.sl.v501, runPass1.sl.v521, runPass1.sl.v530, runPass1.sl.v537, runPass1.sl.v557, runPass1.sl.v566, runPass1.sl.v573, runPass1.sl.v593, runPass1.sl.v602, runPass1.sl.v609, runPass1.sl.v629, runPass1.sl.v638, runPass1.sl.v645, runPass1.sl.v665, runPass1.sl.v674, runPass1.sl.v681, runPass1.sl.v701, runPass1.sl.v710, runPass1.sl.v717, runPass1.sl.v737, runPass1.sl.v746, runPass1.sl.v753, runPass1.sl.v773, runPass1.sl.v782, runPass1.sl.v789, runPass1.sl.v79, runPass1.sl.v809, runPass1.sl.v818, runPass1.sl.v825, runPass1.sl.v845, runPass1.sl.v854, runPass1.sl.v861, runPass1.sl.v88, runPass1.sl.v881, runPass1.sl.v890, runPass1.sl.v897, runPass1.sl.v95]
    unfold_payloads
    pointwise [Memref.IsWhole.readAt_unread, load12', sumG2]
    first | exact congrArg (· + _) hv | exact congrArg (· + _) (hz ▸ hv)

set_option backward.isDefEq.respectTransparency.types false in
set_option maxHeartbeats 4000000 in
theorem updated14 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) :
    Updated (runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.2.1 1536 (sumN2 x1 x3 x5 x6 x7 x15 x14) (sumN x1 x3 x5 x6 x7 x15 x14) := by
  refine Updated.push arg14.view _ (Updated.push arg14.view _ (Updated.push arg14.view _ (Updated.push arg14.view _ (Updated.push arg14.view _ (Updated.push arg14.view _ (Updated.push arg14.view _ (Updated.push arg14.view _ (Updated.push arg14.view _ (Updated.push arg14.view _ (Updated.push arg14.view _ (Updated.push arg14.view _ (Filled.updated (filled14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14) (le_refl _) _) ?_) ?_) ?_) ?_) ?_) ?_) ?_) ?_) ?_) ?_) ?_) ?_
  all_goals
    intro hv u b h
    have hv := hv u b h
    have hz : (⟨0 + u.val, by omega⟩ : Fin 1536) = ⟨u.val, by omega⟩ := Fin.ext (Nat.zero_add _)
    simp only [k0_off1, k0_off14, k0_off15, k0_off16, k0_off17, k0_off18, k0_off19, k0_off20, k0_off21, k0_off22, k0_off23, k0_off24, k0_off25, k0_off2, k0_off3, k0_off4, k0_off5, k0_off6, k0_off7, k0_off8, k0_off9, k0_off10, k0_off11, k0_off12, k0_off13, runPass1.sl.r, runPass1.sl.r_1, runPass1.sl.r_10, runPass1.sl.r_11, runPass1.sl.r_12, runPass1.sl.r_13, runPass1.sl.r_14, runPass1.sl.r_15, runPass1.sl.r_16, runPass1.sl.r_17, runPass1.sl.r_18, runPass1.sl.r_19, runPass1.sl.r_2, runPass1.sl.r_20, runPass1.sl.r_21, runPass1.sl.r_22, runPass1.sl.r_23, runPass1.sl.r_24, runPass1.sl.r_25, runPass1.sl.r_26, runPass1.sl.r_27, runPass1.sl.r_28, runPass1.sl.r_29, runPass1.sl.r_3, runPass1.sl.r_30, runPass1.sl.r_31, runPass1.sl.r_32, runPass1.sl.r_33, runPass1.sl.r_34, runPass1.sl.r_35, runPass1.sl.r_36, runPass1.sl.r_37, runPass1.sl.r_38, runPass1.sl.r_39, runPass1.sl.r_4, runPass1.sl.r_40, runPass1.sl.r_41, runPass1.sl.r_42, runPass1.sl.r_43, runPass1.sl.r_44, runPass1.sl.r_45, runPass1.sl.r_46, runPass1.sl.r_47, runPass1.sl.r_48, runPass1.sl.r_49, runPass1.sl.r_5, runPass1.sl.r_50, runPass1.sl.r_51, runPass1.sl.r_52, runPass1.sl.r_53, runPass1.sl.r_54, runPass1.sl.r_55, runPass1.sl.r_56, runPass1.sl.r_57, runPass1.sl.r_58, runPass1.sl.r_59, runPass1.sl.r_6, runPass1.sl.r_60, runPass1.sl.r_61, runPass1.sl.r_62, runPass1.sl.r_63, runPass1.sl.r_64, runPass1.sl.r_65, runPass1.sl.r_66, runPass1.sl.r_67, runPass1.sl.r_68, runPass1.sl.r_69, runPass1.sl.r_7, runPass1.sl.r_70, runPass1.sl.r_71, runPass1.sl.r_72, runPass1.sl.r_73, runPass1.sl.r_74, runPass1.sl.r_75, runPass1.sl.r_76, runPass1.sl.r_77, runPass1.sl.r_78, runPass1.sl.r_79, runPass1.sl.r_8, runPass1.sl.r_80, runPass1.sl.r_81, runPass1.sl.r_82, runPass1.sl.r_83, runPass1.sl.r_84, runPass1.sl.r_85, runPass1.sl.r_86, runPass1.sl.r_87, runPass1.sl.r_88, runPass1.sl.r_89, runPass1.sl.r_9, runPass1.sl.r_90, runPass1.sl.r_91, runPass1.sl.r_92, runPass1.sl.r_93, runPass1.sl.v115, runPass1.sl.v124, runPass1.sl.v131, runPass1.sl.v151, runPass1.sl.v160, runPass1.sl.v167, runPass1.sl.v187, runPass1.sl.v196, runPass1.sl.v203, runPass1.sl.v223, runPass1.sl.v232, runPass1.sl.v239, runPass1.sl.v259, runPass1.sl.v268, runPass1.sl.v275, runPass1.sl.v295, runPass1.sl.v304, runPass1.sl.v311, runPass1.sl.v331, runPass1.sl.v340, runPass1.sl.v347, runPass1.sl.v367, runPass1.sl.v376, runPass1.sl.v383, runPass1.sl.v403, runPass1.sl.v412, runPass1.sl.v419, runPass1.sl.v43, runPass1.sl.v439, runPass1.sl.v448, runPass1.sl.v455, runPass1.sl.v485, runPass1.sl.v494, runPass1.sl.v501, runPass1.sl.v521, runPass1.sl.v530, runPass1.sl.v537, runPass1.sl.v557, runPass1.sl.v566, runPass1.sl.v573, runPass1.sl.v593, runPass1.sl.v602, runPass1.sl.v609, runPass1.sl.v629, runPass1.sl.v638, runPass1.sl.v645, runPass1.sl.v665, runPass1.sl.v674, runPass1.sl.v681, runPass1.sl.v701, runPass1.sl.v710, runPass1.sl.v717, runPass1.sl.v737, runPass1.sl.v746, runPass1.sl.v753, runPass1.sl.v773, runPass1.sl.v782, runPass1.sl.v789, runPass1.sl.v79, runPass1.sl.v809, runPass1.sl.v818, runPass1.sl.v825, runPass1.sl.v845, runPass1.sl.v854, runPass1.sl.v861, runPass1.sl.v88, runPass1.sl.v881, runPass1.sl.v890, runPass1.sl.v897, runPass1.sl.v95]
    unfold_payloads
    pointwise [Memref.IsWhole.readAt_unread, load12', sumN2, nrmAt]
    first | exact congrArg (· + _) hv | exact congrArg (· + _) (hz ▸ hv)

/-- The lane of a column of a block. -/
def lane (l : Fin 256) : Fin 128 := ⟨l.val % 128, Nat.mod_lt _ (by omega)⟩

theorem lane_lo (b : Fin 128) (h : b.val < 256) : lane ⟨b.val, h⟩ = b := Fin.ext (Nat.mod_eq_of_lt b.isLt)
theorem lane_hi (b : Fin 128) (h : 128 + b.val < 256) : lane ⟨128 + b.val, h⟩ = b := Fin.ext (by show (128 + b.val) % 128 = b.val; omega)

/-- A block's gradient of the shift and of the scale: the sums over the rows. -/
def dbAt (x5 : Vec I S256x4608 .fp8e4m3) (x6 : Vec I S1x4608 .f32) (x7 : Vec I S1536x4608 .bf16) (l : Fin 256) : EReal :=
  ∑ r : Fin 1536, dxhAt x5 x6 x7 r l

def dgAt (x1 : Vec I S1536x256 .fp8e4m3) (x5 : Vec I S256x4608 .fp8e4m3) (x6 : Vec I S1x4608 .f32) (x7 : Vec I S1536x4608 .bf16)
    (x15 : Vec I S3x1536x128 .f32) (l : Fin 256) : EReal :=
  ∑ r : Fin 1536, dxhAt x5 x6 x7 r l * nrmAt x1 x15 r l (lane l)

set_option backward.isDefEq.respectTransparency.types false in
set_option maxHeartbeats 4000000 in
theorem read11 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) (f : arg11.view.ty.Contents (Elt I)) :
    arg11.view.read (Elt I) (arg11.view.writes (Elt I) f (runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.2.2.2.1)
      = fun y => dbAt x5 x6 x7 (y 1) := by
  unfold runPass1
  dsimp only
  refine read_halves arg11.view f _ _ _ _ _ (fun b => ?_) (fun b => ?_)
  all_goals
    refine Eq.trans ?_ (sum_rows _).symm
    simp only [k0_off1, k0_off14, k0_off15, k0_off16, k0_off17, k0_off18, k0_off19, k0_off20, k0_off21, k0_off22, k0_off23, k0_off24, k0_off25, k0_off2, k0_off3, k0_off4, k0_off5, k0_off6, k0_off7, k0_off8, k0_off9, k0_off10, k0_off11, k0_off12, k0_off13, runPass1.sl.r, runPass1.sl.r_1, runPass1.sl.r_10, runPass1.sl.r_11, runPass1.sl.r_12, runPass1.sl.r_13, runPass1.sl.r_14, runPass1.sl.r_15, runPass1.sl.r_16, runPass1.sl.r_17, runPass1.sl.r_18, runPass1.sl.r_19, runPass1.sl.r_2, runPass1.sl.r_20, runPass1.sl.r_21, runPass1.sl.r_22, runPass1.sl.r_23, runPass1.sl.r_24, runPass1.sl.r_25, runPass1.sl.r_26, runPass1.sl.r_27, runPass1.sl.r_28, runPass1.sl.r_29, runPass1.sl.r_3, runPass1.sl.r_30, runPass1.sl.r_31, runPass1.sl.r_32, runPass1.sl.r_33, runPass1.sl.r_34, runPass1.sl.r_35, runPass1.sl.r_36, runPass1.sl.r_37, runPass1.sl.r_38, runPass1.sl.r_39, runPass1.sl.r_4, runPass1.sl.r_40, runPass1.sl.r_41, runPass1.sl.r_42, runPass1.sl.r_43, runPass1.sl.r_44, runPass1.sl.r_45, runPass1.sl.r_46, runPass1.sl.r_47, runPass1.sl.r_48, runPass1.sl.r_49, runPass1.sl.r_5, runPass1.sl.r_50, runPass1.sl.r_51, runPass1.sl.r_52, runPass1.sl.r_53, runPass1.sl.r_54, runPass1.sl.r_55, runPass1.sl.r_56, runPass1.sl.r_57, runPass1.sl.r_58, runPass1.sl.r_59, runPass1.sl.r_6, runPass1.sl.r_60, runPass1.sl.r_61, runPass1.sl.r_62, runPass1.sl.r_63, runPass1.sl.r_64, runPass1.sl.r_65, runPass1.sl.r_66, runPass1.sl.r_67, runPass1.sl.r_68, runPass1.sl.r_69, runPass1.sl.r_7, runPass1.sl.r_70, runPass1.sl.r_71, runPass1.sl.r_72, runPass1.sl.r_73, runPass1.sl.r_74, runPass1.sl.r_75, runPass1.sl.r_76, runPass1.sl.r_77, runPass1.sl.r_78, runPass1.sl.r_79, runPass1.sl.r_8, runPass1.sl.r_80, runPass1.sl.r_81, runPass1.sl.r_82, runPass1.sl.r_83, runPass1.sl.r_84, runPass1.sl.r_85, runPass1.sl.r_86, runPass1.sl.r_87, runPass1.sl.r_88, runPass1.sl.r_89, runPass1.sl.r_9, runPass1.sl.r_90, runPass1.sl.r_91, runPass1.sl.r_92, runPass1.sl.r_93, runPass1.sl.v115, runPass1.sl.v124, runPass1.sl.v131, runPass1.sl.v151, runPass1.sl.v160, runPass1.sl.v167, runPass1.sl.v187, runPass1.sl.v196, runPass1.sl.v203, runPass1.sl.v223, runPass1.sl.v232, runPass1.sl.v239, runPass1.sl.v259, runPass1.sl.v268, runPass1.sl.v275, runPass1.sl.v295, runPass1.sl.v304, runPass1.sl.v311, runPass1.sl.v331, runPass1.sl.v340, runPass1.sl.v347, runPass1.sl.v367, runPass1.sl.v376, runPass1.sl.v383, runPass1.sl.v403, runPass1.sl.v412, runPass1.sl.v419, runPass1.sl.v43, runPass1.sl.v439, runPass1.sl.v448, runPass1.sl.v455, runPass1.sl.v485, runPass1.sl.v494, runPass1.sl.v501, runPass1.sl.v521, runPass1.sl.v530, runPass1.sl.v537, runPass1.sl.v557, runPass1.sl.v566, runPass1.sl.v573, runPass1.sl.v593, runPass1.sl.v602, runPass1.sl.v609, runPass1.sl.v629, runPass1.sl.v638, runPass1.sl.v645, runPass1.sl.v665, runPass1.sl.v674, runPass1.sl.v681, runPass1.sl.v701, runPass1.sl.v710, runPass1.sl.v717, runPass1.sl.v737, runPass1.sl.v746, runPass1.sl.v753, runPass1.sl.v773, runPass1.sl.v782, runPass1.sl.v789, runPass1.sl.v79, runPass1.sl.v809, runPass1.sl.v818, runPass1.sl.v825, runPass1.sl.v845, runPass1.sl.v854, runPass1.sl.v861, runPass1.sl.v88, runPass1.sl.v881, runPass1.sl.v890, runPass1.sl.v897, runPass1.sl.v95]
    unfold_payloads
    pointwise [Memref.IsWhole.readAt_unread, load12']
    try rfl

set_option backward.isDefEq.respectTransparency.types false in
set_option maxHeartbeats 4000000 in
theorem read10 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) (f : arg10.view.ty.Contents (Elt I)) :
    arg10.view.read (Elt I) (arg10.view.writes (Elt I) f (runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.2.2.1)
      = fun y => dgAt x1 x5 x6 x7 x15 (y 1) := by
  unfold runPass1
  dsimp only
  refine read_halves arg10.view f _ _ _ _ _ (fun b => ?_) (fun b => ?_)
  all_goals
    refine Eq.trans ?_ (sum_rows _).symm
    simp only [k0_off1, k0_off14, k0_off15, k0_off16, k0_off17, k0_off18, k0_off19, k0_off20, k0_off21, k0_off22, k0_off23, k0_off24, k0_off25, k0_off2, k0_off3, k0_off4, k0_off5, k0_off6, k0_off7, k0_off8, k0_off9, k0_off10, k0_off11, k0_off12, k0_off13, runPass1.sl.r, runPass1.sl.r_1, runPass1.sl.r_10, runPass1.sl.r_11, runPass1.sl.r_12, runPass1.sl.r_13, runPass1.sl.r_14, runPass1.sl.r_15, runPass1.sl.r_16, runPass1.sl.r_17, runPass1.sl.r_18, runPass1.sl.r_19, runPass1.sl.r_2, runPass1.sl.r_20, runPass1.sl.r_21, runPass1.sl.r_22, runPass1.sl.r_23, runPass1.sl.r_24, runPass1.sl.r_25, runPass1.sl.r_26, runPass1.sl.r_27, runPass1.sl.r_28, runPass1.sl.r_29, runPass1.sl.r_3, runPass1.sl.r_30, runPass1.sl.r_31, runPass1.sl.r_32, runPass1.sl.r_33, runPass1.sl.r_34, runPass1.sl.r_35, runPass1.sl.r_36, runPass1.sl.r_37, runPass1.sl.r_38, runPass1.sl.r_39, runPass1.sl.r_4, runPass1.sl.r_40, runPass1.sl.r_41, runPass1.sl.r_42, runPass1.sl.r_43, runPass1.sl.r_44, runPass1.sl.r_45, runPass1.sl.r_46, runPass1.sl.r_47, runPass1.sl.r_48, runPass1.sl.r_49, runPass1.sl.r_5, runPass1.sl.r_50, runPass1.sl.r_51, runPass1.sl.r_52, runPass1.sl.r_53, runPass1.sl.r_54, runPass1.sl.r_55, runPass1.sl.r_56, runPass1.sl.r_57, runPass1.sl.r_58, runPass1.sl.r_59, runPass1.sl.r_6, runPass1.sl.r_60, runPass1.sl.r_61, runPass1.sl.r_62, runPass1.sl.r_63, runPass1.sl.r_64, runPass1.sl.r_65, runPass1.sl.r_66, runPass1.sl.r_67, runPass1.sl.r_68, runPass1.sl.r_69, runPass1.sl.r_7, runPass1.sl.r_70, runPass1.sl.r_71, runPass1.sl.r_72, runPass1.sl.r_73, runPass1.sl.r_74, runPass1.sl.r_75, runPass1.sl.r_76, runPass1.sl.r_77, runPass1.sl.r_78, runPass1.sl.r_79, runPass1.sl.r_8, runPass1.sl.r_80, runPass1.sl.r_81, runPass1.sl.r_82, runPass1.sl.r_83, runPass1.sl.r_84, runPass1.sl.r_85, runPass1.sl.r_86, runPass1.sl.r_87, runPass1.sl.r_88, runPass1.sl.r_89, runPass1.sl.r_9, runPass1.sl.r_90, runPass1.sl.r_91, runPass1.sl.r_92, runPass1.sl.r_93, runPass1.sl.v115, runPass1.sl.v124, runPass1.sl.v131, runPass1.sl.v151, runPass1.sl.v160, runPass1.sl.v167, runPass1.sl.v187, runPass1.sl.v196, runPass1.sl.v203, runPass1.sl.v223, runPass1.sl.v232, runPass1.sl.v239, runPass1.sl.v259, runPass1.sl.v268, runPass1.sl.v275, runPass1.sl.v295, runPass1.sl.v304, runPass1.sl.v311, runPass1.sl.v331, runPass1.sl.v340, runPass1.sl.v347, runPass1.sl.v367, runPass1.sl.v376, runPass1.sl.v383, runPass1.sl.v403, runPass1.sl.v412, runPass1.sl.v419, runPass1.sl.v43, runPass1.sl.v439, runPass1.sl.v448, runPass1.sl.v455, runPass1.sl.v485, runPass1.sl.v494, runPass1.sl.v501, runPass1.sl.v521, runPass1.sl.v530, runPass1.sl.v537, runPass1.sl.v557, runPass1.sl.v566, runPass1.sl.v573, runPass1.sl.v593, runPass1.sl.v602, runPass1.sl.v609, runPass1.sl.v629, runPass1.sl.v638, runPass1.sl.v645, runPass1.sl.v665, runPass1.sl.v674, runPass1.sl.v681, runPass1.sl.v701, runPass1.sl.v710, runPass1.sl.v717, runPass1.sl.v737, runPass1.sl.v746, runPass1.sl.v753, runPass1.sl.v773, runPass1.sl.v782, runPass1.sl.v789, runPass1.sl.v79, runPass1.sl.v809, runPass1.sl.v818, runPass1.sl.v825, runPass1.sl.v845, runPass1.sl.v854, runPass1.sl.v861, runPass1.sl.v88, runPass1.sl.v881, runPass1.sl.v890, runPass1.sl.v897, runPass1.sl.v95]
    unfold_payloads
    pointwise [Memref.IsWhole.readAt_unread, load12', lane_lo, lane_hi, nrmAt]
    try rfl

set_option backward.isDefEq.respectTransparency.types false in
/-- The slab of the block holds its gradient, the other slabs what they held. -/
theorem read12 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) (f : arg12.view.ty.Contents (Elt I)) (hf : arg12.view.read (Elt I) f = x12) :
    arg12.view.read (Elt I) (arg12.view.writes (Elt I) f (runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).1)
      = fun y => if (y 0).val = (i 0).val then dxhAt x5 x6 x7 (y 1) (y 2) else x12 y := by
  funext y
  have hi : (i 0).val < 28 := (i 0).isLt
  have ho : k0_off1 i = ![(i 0).val, 0, 0] := by
    have : BitVec.toNat (Scalar.indexCast (BitVec.ofNat 32 (i 0).val)) = (i 0).val := by
      simp [Scalar.indexCast]; omega
    simp only [k0_off1, this]
  unfold runPass1
  dsimp only
  by_cases h : (y 0).val = (i 0).val
  · rw [if_pos h]
    refine (View.read_writes_cons_unit_of_mem arg12.view f _ _ _ y (ix3 0 (y 1) (y 2)) ho ?_).trans ?_
    · intro a
      fin_cases a
      · exact h
      · exact (Nat.zero_add _).symm
      · exact (Nat.zero_add _).symm
    · unfold_payloads
      pointwise [dxhAt, Memref.IsWhole.readAt_unread]
  · rw [if_neg h, ← hf]
    refine (View.read_writes_cons_unit_of_not_mem arg12.view f _ _ _ y ho 0 ?_)
    show (y 0).val < (i 0).val ∨ (i 0).val + 1 ≤ (y 0).val
    omega

/-- The two row sums after the block. -/
theorem read13 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) (f : arg13.view.ty.Contents (Elt I)) :
    arg13.view.read (Elt I) (arg13.view.writes (Elt I) f (runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.1)
      = fun y => sumG2 x3 x5 x6 x7 x13 (y 0) (y 1) :=
  (updated13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).read (le_refl _) _ f

theorem read14 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
      (x1 : Vec I S1536x256 .fp8e4m3) (x3 : Vec I S1x256 .f32) (x5 : Vec I S256x4608 .fp8e4m3) (x6 : Vec I S1x4608 .f32) (x7 : Vec I S1536x4608 .bf16) (x15 : Vec I S3x1536x128 .f32) (x12 : Vec I S14x1536x256 .f32) (x13 : Vec I S1536x128 .f32) (x14 : Vec I S1536x128 .f32) (f : arg14.view.ty.Contents (Elt I)) :
    arg14.view.read (Elt I) (arg14.view.writes (Elt I) f (runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.2.1)
      = fun y => sumN2 x1 x3 x5 x6 x7 x15 x14 (y 0) (y 1) :=
  (updated14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).read (le_refl _) _ f

end Cert.KernelIdeal.Hand
-- ==== Proof.RunB.lean ====
/- The second pass run once: what its stores leave in each buffer. -/
module

public import proofs.«01_k».proof.Proof.Regions
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option backward.proofsInPublic true in
set_option maxHeartbeats 4000000 in
/-- The sums turned into means, as lists of stored pieces. -/
def runMean (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x13 : Vec F S1536x128 .f32) (x14 : Vec F S1536x128 .f32) :
    Σ' (L13 : List (View.Piece (Elt F) S1536x128 .f32)),
    { L14 : List (View.Piece (Elt F) S1536x128 .f32) // ∀ (E : Set ℕ) (K : PUnit → sProp 𝕄),
      iprop(owns (c : Thread nD τ) arg13 fullShare x13 ∗ owns (c : Thread nD τ) arg14 fullShare x14
        ∗ (iprop((∃ f, ⌜arg13.view.read (Elt F) f = x13⌝ ∗ (arg13.view.loc (c : Thread nD τ) ↦[arg13.view.set]{fullShare} arg13.view.writes (Elt F) f L13)) ∗ (∃ f, ⌜arg14.view.read (Elt F) f = x14⌝ ∗ (arg14.view.loc (c : Thread nD τ) ↦[arg14.view.set]{fullShare} arg14.view.writes (Elt F) f L14))) -∗ K ⟨⟩))
      ⊢ wp frame (wpE (defs₀ (F := F)) Variants.none c none) E (regMean (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } :=
  ⟨_, _, by
  intro E K
  unfold regMean owns
  iintro ⟨⟨%f13, %hf13, H13⟩, ⟨%f14, %hf14, H14⟩, Hk⟩
  obtain rfl := harg13.eq_unread hf13
  obtain rfl := harg14.eq_unread hf14
  sl_exec
  sl_step
  iapply Hk
  isplitl [H13]
  · iexists _; isplitr; · ipureintro; exact hf13
    iexact H13
  iexists _; isplitr; · ipureintro; exact hf14
  iexact H14⟩

set_option backward.proofsInPublic true in
set_option maxHeartbeats 4000000 in
/-- A block of the second pass, as lists of stored pieces. -/
def runPass2 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
    (x1 : Vec F S1536x256 .fp8e4m3) (x3 : Vec F S1x256 .f32) (x4 : Vec F S1x256 .f32) (x7 : Vec F S1536x4608 .bf16) (x12 : Vec F S14x1536x256 .f32) (x13 : Vec F S1536x128 .f32) (x14 : Vec F S1536x128 .f32) (x15 : Vec F S3x1536x128 .f32) :
    Σ' (L16 : List (View.Piece (Elt F) S256x1536 .bf16)) (L8 : List (View.Piece (Elt F) S1536x256 .bf16)),
    { L9 : List (View.Piece (Elt F) S256x4608 .f32) // ∀ (E : Set ℕ) (K : PUnit → sProp 𝕄),
      iprop(owns (c : Thread nD τ) arg1 fullShare x1 ∗ owns (c : Thread nD τ) arg3 fullShare x3 ∗ owns (c : Thread nD τ) arg4 fullShare x4 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg3 fullShare x3 ∗ owns (c : Thread nD τ) arg4 fullShare x4 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
      ⊢ wp frame (wpE (defs₀ (F := F)) Variants.none c none) E (regPass2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4) K } :=
  ⟨_, _, _, by
  intro E K
  unfold regPass2 owns
  iintro ⟨⟨%f1, %hf1, H1⟩, ⟨%f3, %hf3, H3⟩, ⟨%f4, %hf4, H4⟩, ⟨%f7, %hf7, H7⟩, ⟨%f12, %hf12, H12⟩, ⟨%f13, %hf13, H13⟩, ⟨%f14, %hf14, H14⟩, ⟨%f15, %hf15, H15⟩, ⟨%d16, %f16, -, H16⟩, ⟨%d8, %f8, -, H8⟩, ⟨%d9, %f9, -, H9⟩, Hk⟩
  obtain rfl := harg1.eq_unread hf1
  obtain rfl := harg3.eq_unread hf3
  obtain rfl := harg4.eq_unread hf4
  obtain rfl := harg7.eq_unread hf7
  obtain rfl := harg12.eq_unread hf12
  obtain rfl := harg13.eq_unread hf13
  obtain rfl := harg14.eq_unread hf14
  obtain rfl := harg15.eq_unread hf15
  sl_exec
  sl_step
  iapply Hk
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [H7]
  · iexists _; isplitr; · ipureintro; exact hf7
    iexact H7
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; iexact H16
  isplitl [H8]
  · iexists _; iexact H8
  iexists _; iexact H9⟩

end Cert.KernelIdeal.Hand

end
-- ==== Proof.Tiles.lean ====
module
public import proofs.«01_k».proof.Proof.Slabs
public import Idealize.ShloMosaic.Lib.Pipeline.Value

@[expose] public section
noncomputable section
namespace Cert.KernelIdeal.Hand
open Idealize.ShloMosaic Idealize.ShloMosaic.TcCoe
open Cert.KernelIdeal Cert.KernelIdeal.Gen

local notation "I" => Idealize.ShloMosaic.Ideal

/-- The stored pieces `L` fill the region `R` of an array with the values of `G`. -/
def Tiled {s : Shape} {e : EltTy} (L : List (View.Piece (Elt I) s e)) (R : s.Idx → Prop) (G : s.Idx → Elt I e) : Prop :=
  (∀ p ∈ L, ∀ x : p.1.shape.Idx, p.2 x = G (p.1.emb x)) ∧ ∀ y, R y → ∃ p ∈ L, y ∈ p.1.set

theorem Tiled.nil {s : Shape} {e : EltTy} (G : s.Idx → Elt I e) : Tiled [] (fun _ => False) G :=
  ⟨fun _ h => absurd h List.not_mem_nil, fun _ h => h.elim⟩

theorem Tiled.mono {s : Shape} {e : EltTy} {L : List (View.Piece (Elt I) s e)} {R R' : s.Idx → Prop} {G : s.Idx → Elt I e}
    (h : Tiled L R G) (hR : ∀ y, R' y → R y) : Tiled L R' G := ⟨h.1, fun y hy => h.2 y (hR y hy)⟩

/-- A further piece. -/
theorem Tiled.cons {s : Shape} {e : EltTy} {L : List (View.Piece (Elt I) s e)} {R R' : s.Idx → Prop} {G : s.Idx → Elt I e}
    (p : View.Piece (Elt I) s e) (h : Tiled L R G) (hp : ∀ x : p.1.shape.Idx, p.2 x = G (p.1.emb x))
    (hR : ∀ y, R' y → y ∈ p.1.set ∨ R y) : Tiled (p :: L) R' G := by
  refine ⟨fun q hq => ?_, fun y hy => ?_⟩
  · rcases List.mem_cons.1 hq with rfl | hq
    · exact hp
    · exact h.1 q hq
  · rcases hR y hy with hm | hm
    · exact ⟨p, List.mem_cons_self, hm⟩
    · obtain ⟨q, hq, hm⟩ := h.2 y hm
      exact ⟨q, List.mem_cons_of_mem _ hq, hm⟩

/-- Pieces that fill a whole array: what they leave, in the array and in a load of it. -/
theorem Tiled.canon {s : Shape} {e : EltTy} {L : List (View.Piece (Elt I) s e)} {R : s.Idx → Prop} {G : s.Idx → Elt I e}
    (h : Tiled L R G) (hR : ∀ y, R y) : View.canon L = G :=
  funext fun y => View.canon_apply_of_pieces G L h.1 y (h.2 y (hR y))

theorem Tiled.read {s : Shape} {e : EltTy} {L : List (View.Piece (Elt I) s e)} {R : s.Idx → Prop} {G : s.Idx → Elt I e}
    (h : Tiled L R G) (hR : ∀ y, R y) (v : View sig .tc .vmem s e) (f : v.ty.Contents (Elt I)) :
    v.read (Elt I) (v.writes (Elt I) f L) = G := by
  rw [View.read_writes_eq_canon v f L fun y => h.2 y (hR y), h.canon hR]

/-- The region of the columns below `c`, and of the `w` columns from `c` the rows below `a`. -/
def ByCols {m n : ℕ} (c w a : ℕ) (y : (⟨2, ![m, n]⟩ : Shape).Idx) : Prop := (y 1).val < c ∨ ((y 1).val < c + w ∧ (y 0).val < a)

/-- The region of the rows below `c`, and of the `w` rows from `c` the columns below `a`. -/
def ByRows {m n : ℕ} (c w a : ℕ) (y : (⟨2, ![m, n]⟩ : Shape).Idx) : Prop := (y 0).val < c ∨ ((y 0).val < c + w ∧ (y 1).val < a)

/-- The region of the planes below `c`, and of plane `c` the rows below `a`. -/
def ByPlanes {l m n : ℕ} (c a : ℕ) (y : (⟨3, ![l, m, n]⟩ : Shape).Idx) : Prop := (y 0).val < c ∨ ((y 0).val < c + 1 ∧ (y 1).val < a)

theorem tile_of {m n k w : ℕ} {e : EltTy} {a c : ℕ}
    (inb : ∀ x, (![a, c] : Fin 2 → ℕ) x + (![k, w] : Fin 2 → ℕ) x ≤ (⟨2, ![m, n]⟩ : Shape).size x)
    {P : (⟨2, ![k, w]⟩ : Shape).Idx → Elt I e} {G : Fin m → Fin n → Elt I e}
    (hP : ∀ (u : Fin k) (b : Fin w) (h : a + u.val < m) (h' : c + b.val < n), P (ix2 u b) = G ⟨a + u.val, h⟩ ⟨c + b.val, h'⟩)
    (x : (⟨2, ![k, w]⟩ : Shape).Idx) :
    P x = (fun y : (⟨2, ![m, n]⟩ : Shape).Idx => G (y 0) (y 1)) ((Rect.unit (s := (⟨2, ![m, n]⟩ : Shape)) ![a, c] ![k, w] inb).emb x) := by
  have h0 : a + k ≤ m := inb 0
  have h1 : c + w ≤ n := inb 1
  have x0 : (x 0).val < k := (x 0).isLt
  have x1 : (x 1).val < w := (x 1).isLt
  have e : x = ix2 (x 0) (x 1) := by
    funext z
    fin_cases z <;> rfl
  refine (congrArg P e).trans ((hP (x 0) (x 1) (by omega) (by omega)).trans ?_)
  show G _ _ = G _ _
  congr 1
  · apply Fin.ext
    show a + (x 0).val = a + 1 * (x 0).val
    omega
  · apply Fin.ext
    show c + (x 1).val = c + 1 * (x 1).val
    omega

theorem Tiled.downCol {m n k w : ℕ} {e : EltTy} {L : List (View.Piece (Elt I) (⟨2, ![m, n]⟩ : Shape) e)} {a c : ℕ} {G : Fin m → Fin n → Elt I e}
    (inb : ∀ x, (![a, c] : Fin 2 → ℕ) x + (![k, w] : Fin 2 → ℕ) x ≤ (⟨2, ![m, n]⟩ : Shape).size x)
    {P : (⟨2, ![k, w]⟩ : Shape).Idx → Elt I e} (hL : Tiled L (ByCols c w a) fun y => G (y 0) (y 1))
    (hP : ∀ (u : Fin k) (b : Fin w) (h : a + u.val < m) (h' : c + b.val < n), P (ix2 u b) = G ⟨a + u.val, h⟩ ⟨c + b.val, h'⟩) :
    Tiled ((⟨Rect.unit (s := (⟨2, ![m, n]⟩ : Shape)) ![a, c] ![k, w] inb, P⟩ : View.Piece (Elt I) (⟨2, ![m, n]⟩ : Shape) e) :: L)
      (ByCols c w (a + k)) fun y => G (y 0) (y 1) := by
  refine hL.cons _ (tile_of inb hP) fun y hy => ?_
  by_cases h : ByCols c w a y
  · exact Or.inr h
  · left
    unfold ByCols at h hy
    rw [Rect.mem_set_unit]
    intro x
    fin_cases x
    · show a ≤ (y 0).val ∧ (y 0).val < a + k
      omega
    · show c ≤ (y 1).val ∧ (y 1).val < c + w
      omega

theorem Tiled.alongRow {m n k w : ℕ} {e : EltTy} {L : List (View.Piece (Elt I) (⟨2, ![m, n]⟩ : Shape) e)} {a c : ℕ} {G : Fin m → Fin n → Elt I e}
    (inb : ∀ x, (![c, a] : Fin 2 → ℕ) x + (![w, k] : Fin 2 → ℕ) x ≤ (⟨2, ![m, n]⟩ : Shape).size x)
    {P : (⟨2, ![w, k]⟩ : Shape).Idx → Elt I e} (hL : Tiled L (ByRows c w a) fun y => G (y 0) (y 1))
    (hP : ∀ (u : Fin w) (b : Fin k) (h : c + u.val < m) (h' : a + b.val < n), P (ix2 u b) = G ⟨c + u.val, h⟩ ⟨a + b.val, h'⟩) :
    Tiled ((⟨Rect.unit (s := (⟨2, ![m, n]⟩ : Shape)) ![c, a] ![w, k] inb, P⟩ : View.Piece (Elt I) (⟨2, ![m, n]⟩ : Shape) e) :: L)
      (ByRows c w (a + k)) fun y => G (y 0) (y 1) := by
  refine hL.cons _ (tile_of inb hP) fun y hy => ?_
  by_cases h : ByRows c w a y
  · exact Or.inr h
  · left
    unfold ByRows at h hy
    rw [Rect.mem_set_unit]
    intro x
    fin_cases x
    · show c ≤ (y 0).val ∧ (y 0).val < c + w
      omega
    · show a ≤ (y 1).val ∧ (y 1).val < a + k
      omega

theorem Tiled.alongPlane {l m n k : ℕ} {e : EltTy} {L : List (View.Piece (Elt I) (⟨3, ![l, m, n]⟩ : Shape) e)} {a c : ℕ}
    {G : Fin l → Fin m → Fin n → Elt I e}
    (inb : ∀ x, (![c, a, 0] : Fin 3 → ℕ) x + (![1, k, n] : Fin 3 → ℕ) x ≤ (⟨3, ![l, m, n]⟩ : Shape).size x)
    {P : (⟨3, ![1, k, n]⟩ : Shape).Idx → Elt I e} (hL : Tiled L (ByPlanes c a) fun y => G (y 0) (y 1) (y 2))
    (hP : ∀ (u : Fin k) (b : Fin n) (h0 : c < l) (h : a + u.val < m), P (ix3 0 u b) = G ⟨c, h0⟩ ⟨a + u.val, h⟩ b) :
    Tiled ((⟨Rect.unit (s := (⟨3, ![l, m, n]⟩ : Shape)) ![c, a, 0] ![1, k, n] inb, P⟩ : View.Piece (Elt I) (⟨3, ![l, m, n]⟩ : Shape) e) :: L)
      (ByPlanes c (a + k)) fun y => G (y 0) (y 1) (y 2) := by
  have i0 : c + 1 ≤ l := inb 0
  have i1 : a + k ≤ m := inb 1
  refine hL.cons _ (fun x => ?_) fun y hy => ?_
  · have x0 : (x 0).val < 1 := (x 0).isLt
    have x1 : (x 1).val < k := (x 1).isLt
    have e : x = ix3 0 (x 1) (x 2) := by
      funext z
      fin_cases z
      · exact Fin.ext (by show (x 0).val = 0; omega)
      · rfl
      · rfl
    refine (congrArg P e).trans ((hP (x 1) (x 2) (by omega) (by omega)).trans ?_)
    show G _ _ _ = G _ _ _
    congr 1
    · apply Fin.ext
      show c = c + 1 * (x 0).val
      omega
    · apply Fin.ext
      show a + (x 1).val = a + 1 * (x 1).val
      omega
    · apply Fin.ext
      show (x 2).val = 0 + 1 * (x 2).val
      omega
  · by_cases h : ByPlanes c a y
    · exact Or.inr h
    · left
      unfold ByPlanes at h hy
      rw [Rect.mem_set_unit]
      intro x
      fin_cases x
      · show c ≤ (y 0).val ∧ (y 0).val < c + 1
        omega
      · show a ≤ (y 1).val ∧ (y 1).val < a + k
        omega
      · have : (y 2).val < n := (y 2).isLt
        show 0 ≤ (y 2).val ∧ (y 2).val < 0 + n
        omega

/-- Before the first tile; and after a strip of tiles, before the next. -/
theorem Tiled.startCols {m n w : ℕ} {e : EltTy} (G : (⟨2, ![m, n]⟩ : Shape).Idx → Elt I e) : Tiled [] (ByCols 0 w 0) G :=
  (Tiled.nil G).mono fun _ h => by unfold ByCols at h; omega

theorem Tiled.startRows {m n w : ℕ} {e : EltTy} (G : (⟨2, ![m, n]⟩ : Shape).Idx → Elt I e) : Tiled [] (ByRows 0 w 0) G :=
  (Tiled.nil G).mono fun _ h => by unfold ByRows at h; omega

theorem Tiled.startPlanes {l m n : ℕ} {e : EltTy} (G : (⟨3, ![l, m, n]⟩ : Shape).Idx → Elt I e) : Tiled [] (ByPlanes 0 0) G :=
  (Tiled.nil G).mono fun _ h => by unfold ByPlanes at h; omega

theorem Tiled.nextCol {m n c w a : ℕ} {e : EltTy} {L : List (View.Piece (Elt I) (⟨2, ![m, n]⟩ : Shape) e)} {G : (⟨2, ![m, n]⟩ : Shape).Idx → Elt I e}
    (hL : Tiled L (ByCols c w a) G) (ha : m ≤ a) : Tiled L (ByCols (c + w) w 0) G :=
  hL.mono fun y h => by
    have : (y 0).val < m := (y 0).isLt
    unfold ByCols at *
    omega

theorem Tiled.nextRow {m n c w a : ℕ} {e : EltTy} {L : List (View.Piece (Elt I) (⟨2, ![m, n]⟩ : Shape) e)} {G : (⟨2, ![m, n]⟩ : Shape).Idx → Elt I e}
    (hL : Tiled L (ByRows c w a) G) (ha : n ≤ a) : Tiled L (ByRows (c + w) w 0) G :=
  hL.mono fun y h => by
    have : (y 1).val < n := (y 1).isLt
    unfold ByRows at *
    omega

theorem Tiled.nextPlane {l m n c a : ℕ} {e : EltTy} {L : List (View.Piece (Elt I) (⟨3, ![l, m, n]⟩ : Shape) e)} {G : (⟨3, ![l, m, n]⟩ : Shape).Idx → Elt I e}
    (hL : Tiled L (ByPlanes c a) G) (ha : m ≤ a) : Tiled L (ByPlanes (c + 1) 0) G :=
  hL.mono fun y h => by
    have : (y 1).val < m := (y 1).isLt
    unfold ByPlanes at *
    omega

/-- One piece that is the whole array leaves its own values. -/
theorem read_piece {m n : ℕ} {e : EltTy} (v : View sig .tc .vmem (⟨2, ![m, n]⟩ : Shape) e) (f : v.ty.Contents (Elt I)) (inb)
    (P : (⟨2, ![m, n]⟩ : Shape).Idx → Elt I e) :
    v.read (Elt I) (v.writes (Elt I) f [⟨Rect.unit (s := (⟨2, ![m, n]⟩ : Shape)) ![0, 0] ![m, n] inb, P⟩]) = P := by
  have h : Tiled [(⟨Rect.unit (s := (⟨2, ![m, n]⟩ : Shape)) ![0, 0] ![m, n] inb, P⟩ : View.Piece (Elt I) (⟨2, ![m, n]⟩ : Shape) e)]
      (ByCols 0 n (0 + m)) fun y => (fun a b => P (ix2 a b)) (y 0) (y 1) :=
    Tiled.downCol (G := fun a b => P (ix2 a b)) (P := P) _ (Tiled.startCols _) fun u b h h' => by
      refine congrArg P ?_
      congr 1 <;> exact Fin.ext (Nat.zero_add _).symm
  rw [h.read (fun y => by
    have h1 : (y 1).val < n := (y 1).isLt
    have h0 : (y 0).val < m := (y 0).isLt
    unfold ByCols; omega) v f]
  funext y
  refine congrArg P ?_
  ext k; fin_cases k <;> rfl

end Cert.KernelIdeal.Hand
-- ==== Proof.Pass2.lean ====
module
public import proofs.«01_k».proof.Proof.RunB
public import proofs.«01_k».proof.Proof.Tiles
public import proofs.«01_k».proof.Proof.Pass1
public import Idealize.ShloMosaic.Lib.Pointwise
public import Idealize.ShloMosaic.Lib.WholeRead

@[expose] public section
set_option maxRecDepth 16384
noncomputable section
namespace Cert.KernelIdeal.Hand
open Idealize.ShloMosaic Idealize.ShloMosaic.TcCoe
open Cert.KernelIdeal Cert.KernelIdeal.Gen

local notation "I" => Idealize.ShloMosaic.Ideal

/-- The slab that a point of the second pass reads. -/
def slab (i : grid0.Coords) : Fin 14 := ⟨(i 0).val - 14, by have : (i 0).val < 28 := (i 0).isLt; omega⟩

/-- A block's gradient at the input. -/
def dxAt (x1 : Vec I S1536x256 .fp8e4m3) (x3 : Vec I S1x256 .f32) (d : Fin 1536 → Fin 256 → EReal) (x13 x14 : Vec I S1536x128 .f32)
    (x15 : Vec I S3x1536x128 .f32) (r : Fin 1536) (l : Fin 256) : EReal :=
  x15 (ix3 2 r (lane l)) * (d r l * x3 (ix2 0 l) - x13 (ix2 r (lane l)) - nrmAt x1 x15 r l (lane l) * x14 (ix2 r (lane l)))

/-- A block's normalised, scaled and shifted input. -/
def outAt (x1 : Vec I S1536x256 .fp8e4m3) (x3 x4 : Vec I S1x256 .f32) (x15 : Vec I S3x1536x128 .f32) (l : Fin 256) (r : Fin 1536) : EReal :=
  nrmAt x1 x15 r l (lane l) * x3 (ix2 0 l) + x4 (ix2 0 l)

/-- The slab index as the program computes it. -/
theorem word_slab (i : grid0.Coords) (h4 : k0_cond4 i = 1#1) :
    BitVec.toNat (Scalar.indexCast (Scalar.subi (BitVec.ofNat 32 (i 0).val) 14#32)) = (slab i).val ∧ 14 ≤ (i 0).val := by
  have key : ∀ n : Fin 28, (Scalar.cmpi .ne (Scalar.extui (Scalar.cmpi .sge (BitVec.ofNat 32 n.val) (14#32 : BitVec 32))) (0#32 : BitVec 32)) = (1#1 : BitVec 1) →
     BitVec.toNat (Scalar.indexCast (Scalar.subi (BitVec.ofNat 32 n.val) 14#32)) = n.val - 14 ∧ 14 ≤ n.val := by decide +kernel
  exact key (i 0) h4

theorem slab_word (i : grid0.Coords) {n : ℕ} (hn : n = (slab i).val) (h : n < 14) : (⟨n, h⟩ : Fin 14) = slab i := Fin.ext hn

set_option backward.isDefEq.respectTransparency.types false in
set_option maxHeartbeats 4000000 in
/-- The tiles of the turned block, which fill a buffer of it. -/
theorem tiled16 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
      (x1 : Vec I S1536x256 .fp8e4m3) (x3 : Vec I S1x256 .f32) (x4 : Vec I S1x256 .f32) (x7 : Vec I S1536x4608 .bf16) (x12 : Vec I S14x1536x256 .f32) (x13 : Vec I S1536x128 .f32) (x14 : Vec I S1536x128 .f32) (x15 : Vec I S3x1536x128 .f32) :
    Tiled (runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).1 (ByRows (0 + 128) 128 (0 + 128 + 128 + 128 + 128 + 128 + 128 + 128 + 128 + 128 + 128 + 128 + 128)) fun y => outAt x1 x3 x4 x15 (y 0) (y 1) := by
  refine Tiled.alongRow _ (Tiled.alongRow _ (Tiled.alongRow _ (Tiled.alongRow _ (Tiled.alongRow _ (Tiled.alongRow _ (Tiled.alongRow _ (Tiled.alongRow _ (Tiled.alongRow _ (Tiled.alongRow _ (Tiled.alongRow _ (Tiled.alongRow _ (?base0) ?_) ?_) ?_) ?_) ?_) ?_) ?_) ?_) ?_) ?_) ?_) ?_
  case' base0 => refine Tiled.nextRow (c := 0) (w := 128) (a := 0 + 128 + 128 + 128 + 128 + 128 + 128 + 128 + 128 + 128 + 128 + 128 + 128) ?basx0 (le_refl _)
  case' base0 => refine Tiled.alongRow _ (Tiled.alongRow _ (Tiled.alongRow _ (Tiled.alongRow _ (Tiled.alongRow _ (Tiled.alongRow _ (Tiled.alongRow _ (Tiled.alongRow _ (Tiled.alongRow _ (Tiled.alongRow _ (Tiled.alongRow _ (Tiled.alongRow _ (Tiled.startRows _) ?_) ?_) ?_) ?_) ?_) ?_) ?_) ?_) ?_) ?_) ?_) ?_
  all_goals
    intro u b h h'
    simp only [runPass2.sl.cst, runPass2.sl.r, runPass2.sl.r_1, runPass2.sl.r_10, runPass2.sl.r_11, runPass2.sl.r_12, runPass2.sl.r_13, runPass2.sl.r_14, runPass2.sl.r_15, runPass2.sl.r_16, runPass2.sl.r_17, runPass2.sl.r_18, runPass2.sl.r_19, runPass2.sl.r_2, runPass2.sl.r_20, runPass2.sl.r_21, runPass2.sl.r_22, runPass2.sl.r_23, runPass2.sl.r_24, runPass2.sl.r_25, runPass2.sl.r_26, runPass2.sl.r_27, runPass2.sl.r_28, runPass2.sl.r_29, runPass2.sl.r_3, runPass2.sl.r_30, runPass2.sl.r_31, runPass2.sl.r_32, runPass2.sl.r_33, runPass2.sl.r_34, runPass2.sl.r_35, runPass2.sl.r_36, runPass2.sl.r_37, runPass2.sl.r_38, runPass2.sl.r_39, runPass2.sl.r_4, runPass2.sl.r_40, runPass2.sl.r_41, runPass2.sl.r_42, runPass2.sl.r_43, runPass2.sl.r_44, runPass2.sl.r_45, runPass2.sl.r_46, runPass2.sl.r_47, runPass2.sl.r_48, runPass2.sl.r_49, runPass2.sl.r_5, runPass2.sl.r_50, runPass2.sl.r_51, runPass2.sl.r_52, runPass2.sl.r_53, runPass2.sl.r_54, runPass2.sl.r_55, runPass2.sl.r_56, runPass2.sl.r_57, runPass2.sl.r_58, runPass2.sl.r_59, runPass2.sl.r_6, runPass2.sl.r_60, runPass2.sl.r_61, runPass2.sl.r_62, runPass2.sl.r_63, runPass2.sl.r_7, runPass2.sl.r_8, runPass2.sl.r_9]
    unfold_payloads
    pointwise [Memref.IsWhole.readAt_unread, outAt, nrmAt, lane_lo, lane_hi]

set_option backward.isDefEq.respectTransparency.types false in
set_option maxHeartbeats 4000000 in
/-- The tiles of a block's gradient at the input. -/
theorem tiled8 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
      (x1 : Vec I S1536x256 .fp8e4m3) (x3 : Vec I S1x256 .f32) (x4 : Vec I S1x256 .f32) (x7 : Vec I S1536x4608 .bf16) (x12 : Vec I S14x1536x256 .f32) (x13 : Vec I S1536x128 .f32) (x14 : Vec I S1536x128 .f32) (x15 : Vec I S3x1536x128 .f32) :
    Tiled (runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).2.1 (ByCols (0 + 128) 128 (0 + 128 + 128 + 128 + 128 + 128 + 128 + 128 + 128 + 128 + 128 + 128 + 128)) fun y => dxAt x1 x3 (fun r l => x12 (ix3 (slab i) r l)) x13 x14 x15 (y 0) (y 1) := by
  have hs := (word_slab i h4).1
  refine Tiled.downCol _ (Tiled.downCol _ (Tiled.downCol _ (Tiled.downCol _ (Tiled.downCol _ (Tiled.downCol _ (Tiled.downCol _ (Tiled.downCol _ (Tiled.downCol _ (Tiled.downCol _ (Tiled.downCol _ (Tiled.downCol _ (?base0) ?_) ?_) ?_) ?_) ?_) ?_) ?_) ?_) ?_) ?_) ?_) ?_
  case' base0 => refine Tiled.nextCol (c := 0) (w := 128) (a := 0 + 128 + 128 + 128 + 128 + 128 + 128 + 128 + 128 + 128 + 128 + 128 + 128) ?basx0 (le_refl _)
  case' base0 => refine Tiled.downCol _ (Tiled.downCol _ (Tiled.downCol _ (Tiled.downCol _ (Tiled.downCol _ (Tiled.downCol _ (Tiled.downCol _ (Tiled.downCol _ (Tiled.downCol _ (Tiled.downCol _ (Tiled.downCol _ (Tiled.downCol _ (Tiled.startCols _) ?_) ?_) ?_) ?_) ?_) ?_) ?_) ?_) ?_) ?_) ?_) ?_
  all_goals
    intro u b h h'
    simp only [k0_off26, k0_off27, k0_off28, k0_off29, k0_off30, k0_off31, k0_off32, k0_off33, k0_off34, k0_off35, k0_off36, k0_off37, k0_off38, k0_off39, k0_off40, k0_off41, k0_off42, k0_off43, k0_off44, k0_off45, k0_off46, k0_off47, k0_off48, k0_off49, runPass2.sl.cst, runPass2.sl.r, runPass2.sl.r_1, runPass2.sl.r_10, runPass2.sl.r_11, runPass2.sl.r_12, runPass2.sl.r_13, runPass2.sl.r_14, runPass2.sl.r_15, runPass2.sl.r_16, runPass2.sl.r_17, runPass2.sl.r_18, runPass2.sl.r_19, runPass2.sl.r_2, runPass2.sl.r_20, runPass2.sl.r_21, runPass2.sl.r_22, runPass2.sl.r_23, runPass2.sl.r_24, runPass2.sl.r_25, runPass2.sl.r_26, runPass2.sl.r_27, runPass2.sl.r_28, runPass2.sl.r_29, runPass2.sl.r_3, runPass2.sl.r_30, runPass2.sl.r_31, runPass2.sl.r_32, runPass2.sl.r_33, runPass2.sl.r_34, runPass2.sl.r_35, runPass2.sl.r_36, runPass2.sl.r_37, runPass2.sl.r_38, runPass2.sl.r_39, runPass2.sl.r_4, runPass2.sl.r_40, runPass2.sl.r_41, runPass2.sl.r_42, runPass2.sl.r_43, runPass2.sl.r_44, runPass2.sl.r_45, runPass2.sl.r_46, runPass2.sl.r_47, runPass2.sl.r_48, runPass2.sl.r_49, runPass2.sl.r_5, runPass2.sl.r_50, runPass2.sl.r_51, runPass2.sl.r_52, runPass2.sl.r_53, runPass2.sl.r_54, runPass2.sl.r_55, runPass2.sl.r_56, runPass2.sl.r_57, runPass2.sl.r_58, runPass2.sl.r_59, runPass2.sl.r_6, runPass2.sl.r_60, runPass2.sl.r_61, runPass2.sl.r_62, runPass2.sl.r_63, runPass2.sl.r_7, runPass2.sl.r_8, runPass2.sl.r_9]
    unfold_payloads
    pointwise [Memref.IsWhole.readAt_unread, dxAt, nrmAt, lane_lo, lane_hi]
    simp only [slab_word i hs]

/-- A block of the gradient at the weights. -/
def dwAt (x1 : Vec I S1536x256 .fp8e4m3) (x3 x4 : Vec I S1x256 .f32) (x7 : Vec I S1536x4608 .bf16) (x15 : Vec I S3x1536x128 .f32)
    (l : Fin 256) (n : Fin 4608) : EReal := ∑ r : Fin 1536, outAt x1 x3 x4 x15 l r * x7 (ix2 r n)

/-- The input's gradient as it is left in its block. -/
theorem read8 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
      (x1 : Vec I S1536x256 .fp8e4m3) (x3 : Vec I S1x256 .f32) (x4 : Vec I S1x256 .f32) (x7 : Vec I S1536x4608 .bf16) (x12 : Vec I S14x1536x256 .f32) (x13 : Vec I S1536x128 .f32) (x14 : Vec I S1536x128 .f32) (x15 : Vec I S3x1536x128 .f32) (f : arg8.view.ty.Contents (Elt I)) :
    arg8.view.read (Elt I) (arg8.view.writes (Elt I) f (runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).2.1)
      = fun y => dxAt x1 x3 (fun r l => x12 (ix3 (slab i) r l)) x13 x14 x15 (y 0) (y 1) :=
  (tiled8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).read (fun y => by
    have h1 : (y 1).val < 256 := (y 1).isLt
    have h0 : (y 0).val < 1536 := (y 0).isLt
    unfold ByCols; omega) _ f

/-- The turned block as it is loaded. -/
theorem load16 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
      (x1 : Vec I S1536x256 .fp8e4m3) (x3 : Vec I S1x256 .f32) (x4 : Vec I S1x256 .f32) (x7 : Vec I S1536x4608 .bf16) (x12 : Vec I S14x1536x256 .f32) (x13 : Vec I S1536x128 .f32) (x14 : Vec I S1536x128 .f32) (x15 : Vec I S3x1536x128 .f32) (v : View sig .tc .vmem S256x1536 .bf16) (inb) :
    v.readCov (Val := Elt I) (runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).1 (Rect.unit (s := S256x1536) ![0, 0] ![256, 1536] inb).toLoadRect
      = fun y : S256x1536.Idx => outAt x1 x3 x4 x15 (y 0) (y 1) := by
  rw [View.readCov_eq_canon', (tiled16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).canon fun y => by
    have h1 : (y 0).val < 256 := (y 0).isLt
    have h0 : (y 1).val < 1536 := (y 1).isLt
    unfold ByRows; omega]
  funext y
  refine congrArg₂ (outAt x1 x3 x4 x15) (Fin.ext ?_) (Fin.ext ?_)
  · show 0 + 1 * (y 0).val = _; omega
  · show 0 + 1 * (y 1).val = _; omega

set_option backward.isDefEq.respectTransparency.types false in
set_option maxHeartbeats 4000000 in
/-- The weights' gradient as it is left in its block. -/
theorem read9 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
      (x1 : Vec I S1536x256 .fp8e4m3) (x3 : Vec I S1x256 .f32) (x4 : Vec I S1x256 .f32) (x7 : Vec I S1536x4608 .bf16) (x12 : Vec I S14x1536x256 .f32) (x13 : Vec I S1536x128 .f32) (x14 : Vec I S1536x128 .f32) (x15 : Vec I S3x1536x128 .f32) (f : arg9.view.ty.Contents (Elt I)) :
    arg9.view.read (Elt I) (arg9.view.writes (Elt I) f (runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).2.2.1)
      = fun y => dwAt x1 x3 x4 x7 x15 (y 0) (y 1) := by
  have e : (runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).2.2.1 = [⟨Rect.unit (s := S256x4608) ![0, 0] ![256, 4608] inb_S256x4608_S256x4608_0_0, fun y : S256x4608.Idx => dwAt x1 x3 x4 x7 x15 (y 0) (y 1)⟩] := by
    refine congrArg (fun P => [(⟨Rect.unit (s := S256x4608) ![0, 0] ![256, 4608] inb_S256x4608_S256x4608_0_0, P⟩ : View.Piece (Elt I) S256x4608 .f32)]) ?_
    have h16 := load16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15 arg16.view inb_S256x1536_S256x1536_0_0
    show k0_pay9 (arg16.view.readCov (Val := Elt I) (runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).1 (Rect.unit (s := S256x1536) ![0, 0] ![256, 1536] inb_S256x1536_S256x1536_0_0).toLoadRect)
      (runPass2.sl.r_63 c arg7 harg7 x7) runPass2.sl.cst = _
    rw [h16]
    funext y
    obtain ⟨a, b, rfl⟩ : ∃ a b, y = ix2 a b := ⟨y 0, y 1, by ext k; fin_cases k <;> rfl⟩
    simp only [runPass2.sl.r_63, runPass2.sl.cst]
    unfold_payloads
    pointwise [Memref.IsWhole.readAt_unread, dwAt]
  rw [e]
  exact read_piece _ _ _ _

end Cert.KernelIdeal.Hand
-- ==== Proof.Init.lean ====
module
public import proofs.«01_k».proof.Proof.RunA
public import proofs.«01_k».proof.Proof.Tiles
public import proofs.«01_k».proof.Proof.RunB
public import Idealize.ShloMosaic.Lib.Pointwise
public import Idealize.ShloMosaic.Lib.WholeRead

@[expose] public section
set_option maxRecDepth 16384
noncomputable section
namespace Cert.KernelIdeal.Hand
open Idealize.ShloMosaic Idealize.ShloMosaic.TcCoe
open Cert.KernelIdeal Cert.KernelIdeal.Gen

local notation "I" => Idealize.ShloMosaic.Ideal

/-- The columns: row `128 k + u` of plane `q` is everywhere the entry `(q, k, u)` of the table. -/
def colAt (x2 : Vec I S3x12x128 .f32) (q : Fin 3) (r : Fin 1536) (_ : Fin 128) : EReal :=
  x2 (ix3 q ⟨r.val / 128, by omega⟩ ⟨r.val % 128, by omega⟩)

/-- An entry of the table, as the columns have it. -/
theorem colAt_eq (x2 : Vec I S3x12x128 .f32) (q : Fin 3) (k : ℕ) (u b : Fin 128) (h : 128 * k + u.val < 1536) :
    colAt x2 q ⟨128 * k + u.val, h⟩ b = x2 (ix3 q ⟨k, by omega⟩ u) := by
  refine congrArg₂ (fun a b => x2 (ix3 q a b)) (Fin.ext ?_) (Fin.ext ?_)
  · show (128 * k + u.val) / 128 = k; omega
  · show (128 * k + u.val) % 128 = u.val; omega

/-- The same of the first block, whose rows are written without an offset. -/
theorem colAt_first (x2 : Vec I S3x12x128 .f32) (q : Fin 3) (u b : Fin 128) (h : u.val < 1536) :
    colAt x2 q ⟨u.val, h⟩ b = x2 (ix3 q 0 u) := by
  refine congrArg₂ (fun a b => x2 (ix3 q a b)) (Fin.ext ?_) (Fin.ext ?_)
  · show u.val / 128 = 0; omega
  · show u.val % 128 = u.val; omega

set_option backward.isDefEq.respectTransparency.types false in
set_option maxHeartbeats 4000000 in
/-- The tiles of the columns. -/
theorem tiled15 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
      (x2 : Vec I S3x12x128 .f32) :
    Tiled (runInit (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2).2.2.1 (ByPlanes (0 + 1 + 1) (0 + 128 + 128 + 128 + 128 + 128 + 128 + 128 + 128 + 128 + 128 + 128 + 128)) fun y => colAt x2 (y 0) (y 1) (y 2) := by
  refine Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (?base0) ?_) ?_) ?_) ?_) ?_) ?_) ?_) ?_) ?_) ?_) ?_) ?_
  case' base0 => refine Tiled.nextPlane (c := 1) (a := 0 + 128 + 128 + 128 + 128 + 128 + 128 + 128 + 128 + 128 + 128 + 128 + 128) ?basx0 (le_refl _)
  case' base0 => refine Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (?base1) ?_) ?_) ?_) ?_) ?_) ?_) ?_) ?_) ?_) ?_) ?_) ?_
  case' base1 => refine Tiled.nextPlane (c := 0) (a := 0 + 128 + 128 + 128 + 128 + 128 + 128 + 128 + 128 + 128 + 128 + 128 + 128) ?basx1 (le_refl _)
  case' base1 => refine Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (Tiled.alongPlane _ (Tiled.startPlanes _) ?_) ?_) ?_) ?_) ?_) ?_) ?_) ?_) ?_) ?_) ?_) ?_
  all_goals
    intro u b h h'
    simp only [runInit.sl.v101, runInit.sl.v102, runInit.sl.v103, runInit.sl.v104, runInit.sl.v105, runInit.sl.v106, runInit.sl.v107, runInit.sl.v109, runInit.sl.v110, runInit.sl.v111, runInit.sl.v112, runInit.sl.v113, runInit.sl.v114, runInit.sl.v115, runInit.sl.v117, runInit.sl.v118, runInit.sl.v119, runInit.sl.v120, runInit.sl.v121, runInit.sl.v122, runInit.sl.v123, runInit.sl.v125, runInit.sl.v126, runInit.sl.v127, runInit.sl.v128, runInit.sl.v129, runInit.sl.v13, runInit.sl.v130, runInit.sl.v131, runInit.sl.v133, runInit.sl.v134, runInit.sl.v135, runInit.sl.v136, runInit.sl.v137, runInit.sl.v138, runInit.sl.v139, runInit.sl.v14, runInit.sl.v141, runInit.sl.v142, runInit.sl.v143, runInit.sl.v144, runInit.sl.v145, runInit.sl.v146, runInit.sl.v147, runInit.sl.v149, runInit.sl.v15, runInit.sl.v150, runInit.sl.v151, runInit.sl.v152, runInit.sl.v153, runInit.sl.v154, runInit.sl.v155, runInit.sl.v157, runInit.sl.v158, runInit.sl.v159, runInit.sl.v16, runInit.sl.v160, runInit.sl.v161, runInit.sl.v162, runInit.sl.v163, runInit.sl.v165, runInit.sl.v166, runInit.sl.v167, runInit.sl.v168, runInit.sl.v169, runInit.sl.v170, runInit.sl.v171, runInit.sl.v173, runInit.sl.v174, runInit.sl.v175, runInit.sl.v176, runInit.sl.v177, runInit.sl.v178, runInit.sl.v179, runInit.sl.v18, runInit.sl.v181, runInit.sl.v182, runInit.sl.v183, runInit.sl.v184, runInit.sl.v185, runInit.sl.v186, runInit.sl.v187, runInit.sl.v189, runInit.sl.v19, runInit.sl.v190, runInit.sl.v191, runInit.sl.v192, runInit.sl.v193, runInit.sl.v194, runInit.sl.v195, runInit.sl.v197, runInit.sl.v198, runInit.sl.v199, runInit.sl.v200, runInit.sl.v201, runInit.sl.v202, runInit.sl.v203, runInit.sl.v205, runInit.sl.v206, runInit.sl.v207, runInit.sl.v208, runInit.sl.v209, runInit.sl.v21, runInit.sl.v210, runInit.sl.v211, runInit.sl.v213, runInit.sl.v214, runInit.sl.v215, runInit.sl.v216, runInit.sl.v217, runInit.sl.v218, runInit.sl.v219, runInit.sl.v22, runInit.sl.v221, runInit.sl.v222, runInit.sl.v223, runInit.sl.v224, runInit.sl.v225, runInit.sl.v226, runInit.sl.v227, runInit.sl.v229, runInit.sl.v23, runInit.sl.v230, runInit.sl.v231, runInit.sl.v232, runInit.sl.v233, runInit.sl.v234, runInit.sl.v235, runInit.sl.v237, runInit.sl.v238, runInit.sl.v239, runInit.sl.v24, runInit.sl.v240, runInit.sl.v241, runInit.sl.v242, runInit.sl.v243, runInit.sl.v245, runInit.sl.v246, runInit.sl.v247, runInit.sl.v248, runInit.sl.v249, runInit.sl.v25, runInit.sl.v250, runInit.sl.v251, runInit.sl.v253, runInit.sl.v254, runInit.sl.v255, runInit.sl.v256, runInit.sl.v257, runInit.sl.v258, runInit.sl.v259, runInit.sl.v26, runInit.sl.v261, runInit.sl.v262, runInit.sl.v263, runInit.sl.v264, runInit.sl.v265, runInit.sl.v266, runInit.sl.v267, runInit.sl.v269, runInit.sl.v27, runInit.sl.v270, runInit.sl.v271, runInit.sl.v272, runInit.sl.v273, runInit.sl.v274, runInit.sl.v275, runInit.sl.v277, runInit.sl.v278, runInit.sl.v279, runInit.sl.v280, runInit.sl.v281, runInit.sl.v282, runInit.sl.v283, runInit.sl.v285, runInit.sl.v286, runInit.sl.v287, runInit.sl.v288, runInit.sl.v289, runInit.sl.v29, runInit.sl.v290, runInit.sl.v291, runInit.sl.v293, runInit.sl.v294, runInit.sl.v295, runInit.sl.v296, runInit.sl.v297, runInit.sl.v298, runInit.sl.v299, runInit.sl.v30, runInit.sl.v31, runInit.sl.v32, runInit.sl.v33, runInit.sl.v34, runInit.sl.v35, runInit.sl.v37, runInit.sl.v38, runInit.sl.v39, runInit.sl.v40, runInit.sl.v41, runInit.sl.v42, runInit.sl.v43, runInit.sl.v45, runInit.sl.v46, runInit.sl.v47, runInit.sl.v48, runInit.sl.v49, runInit.sl.v50, runInit.sl.v51, runInit.sl.v53, runInit.sl.v54, runInit.sl.v55, runInit.sl.v56, runInit.sl.v57, runInit.sl.v58, runInit.sl.v59, runInit.sl.v61, runInit.sl.v62, runInit.sl.v63, runInit.sl.v64, runInit.sl.v65, runInit.sl.v66, runInit.sl.v67, runInit.sl.v69, runInit.sl.v70, runInit.sl.v71, runInit.sl.v72, runInit.sl.v73, runInit.sl.v74, runInit.sl.v75, runInit.sl.v77, runInit.sl.v78, runInit.sl.v79, runInit.sl.v80, runInit.sl.v81, runInit.sl.v82, runInit.sl.v83, runInit.sl.v85, runInit.sl.v86, runInit.sl.v87, runInit.sl.v88, runInit.sl.v89, runInit.sl.v90, runInit.sl.v91, runInit.sl.v93, runInit.sl.v94, runInit.sl.v95, runInit.sl.v96, runInit.sl.v97, runInit.sl.v98, runInit.sl.v99]
    pointwise [Memref.IsWhole.readAt_unread]
    first | exact (colAt_eq x2 _ _ u b _).symm | exact (colAt_first x2 _ u b _).symm

/-- The columns as they are left in their buffer. -/
theorem readInit15 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
      (x2 : Vec I S3x12x128 .f32) (f : arg15.view.ty.Contents (Elt I)) :
    arg15.view.read (Elt I) (arg15.view.writes (Elt I) f (runInit (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2).2.2.1)
      = fun y => colAt x2 (y 0) (y 1) (y 2) :=
  (tiled15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2).read (fun y => by
    have h1 : (y 1).val < 1536 := (y 1).isLt
    have h0 : (y 0).val < 3 := (y 0).isLt
    unfold ByPlanes; omega) _ f

set_option backward.isDefEq.respectTransparency.types false in
set_option maxHeartbeats 4000000 in
/-- The first sums start at zero. -/
theorem readInit13 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
      (x2 : Vec I S3x12x128 .f32) (f : arg13.view.ty.Contents (Elt I)) :
    arg13.view.read (Elt I) (arg13.view.writes (Elt I) f (runInit (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2).1) = fun _ => (0 : EReal) := by
  refine (read_piece arg13.view f inb_S1536x128_S1536x128_0_0 (k0_pay1 (F := I))).trans ?_
  funext y
  obtain ⟨a, b, rfl⟩ : ∃ a b, y = ix2 a b := ⟨y 0, y 1, by ext k; fin_cases k <;> rfl⟩
  unfold_payloads
  pointwise []

set_option backward.isDefEq.respectTransparency.types false in
set_option maxHeartbeats 4000000 in
/-- The second sums start at zero. -/
theorem readInit14 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
      (x2 : Vec I S3x12x128 .f32) (f : arg14.view.ty.Contents (Elt I)) :
    arg14.view.read (Elt I) (arg14.view.writes (Elt I) f (runInit (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2).2.1) = fun _ => (0 : EReal) := by
  refine (read_piece arg14.view f inb_S1536x128_S1536x128_0_0 (k0_pay2 (F := I))).trans ?_
  funext y
  obtain ⟨a, b, rfl⟩ : ∃ a b, y = ix2 a b := ⟨y 0, y 1, by ext k; fin_cases k <;> rfl⟩
  unfold_payloads
  pointwise []

/-- The mean over a row's lanes, at every lane: the row's sum times the reciprocal of the model's width. -/
def meanAt (x : Vec I S1536x128 .f32) (r : Fin 1536) : EReal := (∑ b : Fin 128, x (ix2 r b)) * Scalar.ofBits (F := I) .f32 0x39924925#32

set_option backward.isDefEq.respectTransparency.types false in
set_option maxHeartbeats 4000000 in
/-- What the first sums turn into. -/
theorem readMean13 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
      (x13 : Vec I S1536x128 .f32) (x14 : Vec I S1536x128 .f32) (f : arg13.view.ty.Contents (Elt I)) :
    arg13.view.read (Elt I) (arg13.view.writes (Elt I) f (runMean (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x13 x14).1) = fun y => meanAt x13 (y 0) := by
  refine (read_piece arg13.view f inb_S1536x128_S1536x128_0_0 (k0_pay7 (F := I) _)).trans ?_
  funext y
  obtain ⟨a, b, rfl⟩ : ∃ a b, y = ix2 a b := ⟨y 0, y 1, by ext k; fin_cases k <;> rfl⟩
  unfold_payloads
  pointwise [Memref.IsWhole.readAt_unread, meanAt]
  trace_state
  try rfl

set_option backward.isDefEq.respectTransparency.types false in
set_option maxHeartbeats 4000000 in
/-- What the second sums turn into. -/
theorem readMean14 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
      (x13 : Vec I S1536x128 .f32) (x14 : Vec I S1536x128 .f32) (f : arg14.view.ty.Contents (Elt I)) :
    arg14.view.read (Elt I) (arg14.view.writes (Elt I) f (runMean (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x13 x14).2.1) = fun y => meanAt x14 (y 0) := by
  refine (read_piece arg14.view f inb_S1536x128_S1536x128_0_0 (k0_pay8 (F := I) _)).trans ?_
  funext y
  obtain ⟨a, b, rfl⟩ : ∃ a b, y = ix2 a b := ⟨y 0, y 1, by ext k; fin_cases k <;> rfl⟩
  unfold_payloads
  pointwise [Memref.IsWhole.readAt_unread, meanAt]
  trace_state
  try rfl

end Cert.KernelIdeal.Hand
-- ==== Proof.Body.lean ====
/- The kernel's body at a grid point: what it leaves in every buffer it is given. -/
module

public import proofs.«01_k».proof.Proof.Pass1
public import proofs.«01_k».proof.Proof.Pass2
public import proofs.«01_k».proof.Proof.Init

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "I" => Idealize.ShloMosaic.Ideal

local notation "𝕄" => MT nD τ sig Unit (Elt I) ℕ (UR sig nD τ) ℕ

/-- The body's sixteen buffers, each at its contents. -/
def held (c : Dev nD) (arg1 : Memref sig .tc .vmem S1536x256 .fp8e4m3) (arg2 : Memref sig .tc .vmem S3x12x128 .f32) (arg3 : Memref sig .tc .vmem S1x256 .f32) (arg4 : Memref sig .tc .vmem S1x256 .f32) (arg5 : Memref sig .tc .vmem S256x4608 .fp8e4m3) (arg6 : Memref sig .tc .vmem S1x4608 .f32) (arg7 : Memref sig .tc .vmem S1536x4608 .bf16) (arg8 : Memref sig .tc .vmem S1536x256 .bf16) (arg9 : Memref sig .tc .vmem S256x4608 .f32) (arg10 : Memref sig .tc .vmem S1x256 .f32) (arg11 : Memref sig .tc .vmem S1x256 .f32) (arg12 : Memref sig .tc .vmem S14x1536x256 .f32) (arg13 : Memref sig .tc .vmem S1536x128 .f32) (arg14 : Memref sig .tc .vmem S1536x128 .f32) (arg15 : Memref sig .tc .vmem S3x1536x128 .f32) (arg16 : Memref sig .tc .vmem S256x1536 .bf16)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16)

/-- Which points take which branch. -/
theorem branches (i : grid0.Coords) : (isFirst i ↔ (i 0).val = 0) ∧ (k0_cond2 i = 1#1 ↔ (i 0).val < 14) ∧ (isTurn i ↔ (i 0).val = 14) ∧ (k0_cond4 i = 1#1 ↔ 14 ≤ (i 0).val) := by
  have key : ∀ n : Fin 28, (Scalar.cmpi .ne (Scalar.extui (Scalar.cmpi .eq (BitVec.ofNat 32 n.val) 0#32)) (0#32 : BitVec 32) = (1#1 : BitVec 1) ↔ n.val = 0)
      ∧ (Scalar.cmpi .ne (Scalar.extui (Scalar.cmpi .slt (BitVec.ofNat 32 n.val) (14#32 : BitVec 32))) (0#32 : BitVec 32) = (1#1 : BitVec 1) ↔ n.val < 14)
      ∧ (Scalar.cmpi .ne (Scalar.extui (Scalar.cmpi .eq (BitVec.ofNat 32 n.val) 14#32)) (0#32 : BitVec 32) = (1#1 : BitVec 1) ↔ n.val = 14)
      ∧ (Scalar.cmpi .ne (Scalar.extui (Scalar.cmpi .sge (BitVec.ofNat 32 n.val) (14#32 : BitVec 32))) (0#32 : BitVec 32) = (1#1 : BitVec 1) ↔ 14 ≤ n.val) := by decide +kernel
  exact key (i 0)

set_option maxHeartbeats 1000000 in
/-- The scratch filled, on the buffers. -/
theorem heldInit (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 x8 x9 x10 x11 x12 (fun _ => (0 : EReal)) (fun _ => (0 : EReal)) (fun y => colAt x2 (y 0) (y 1) (y 2)) x16 -∗ K ⟨⟩))
      ⊢ wp frame (wpE (defs₀ (F := I)) Variants.none c none) E (regInit (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held
  iintro ⟨⟨H1, H2, H3, H4, H5, H6, H7, H8, H9, H10, H11, H12, H13, H14, H15, H16⟩, Hk⟩
  iapply ((runInit (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2).2.2.2 E K)
  isplitl [H2]; · iexact H2
  isplitl [H13]; · iexists _; iexact H13
  isplitl [H14]; · iexists _; iexact H14
  isplitl [H15]; · iexists _; iexact H15
  iintro ⟨H2, ⟨%f13, H13⟩, ⟨%f14, H14⟩, ⟨%f15, H15⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · unfold owns; iexists _; isplitr
    swap; · iexact H13
    ipureintro; exact readInit13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2 f13
  isplitl [H14]
  · unfold owns; iexists _; isplitr
    swap; · iexact H14
    ipureintro; exact readInit14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2 f14
  isplitl [H15]
  · unfold owns; iexists _; isplitr
    swap; · iexact H15
    ipureintro; exact readInit15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x2 f15
  iexact H16

set_option maxHeartbeats 1000000 in
/-- A block of the first pass, on the buffers. -/
theorem heldPass1 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h2 : k0_cond2 i = 1#1)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 x8 x9 (fun y => dgAt x1 x5 x6 x7 x15 (y 1)) (fun y => dbAt x5 x6 x7 (y 1)) (fun y => if (y 0).val = (i 0).val then dxhAt x5 x6 x7 (y 1) (y 2) else x12 y) (fun y => sumG2 x3 x5 x6 x7 x13 (y 0) (y 1)) (fun y => sumN2 x1 x3 x5 x6 x7 x15 x14 (y 0) (y 1)) x15 x16 -∗ K ⟨⟩))
      ⊢ wp frame (wpE (defs₀ (F := I)) Variants.none c none) E (regPass1 (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2) K := by
  unfold held
  iintro ⟨⟨H1, H2, H3, H4, H5, H6, H7, H8, H9, H10, H11, H12, H13, H14, H15, H16⟩, Hk⟩
  iapply ((runPass1 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14).2.2.2.2.2 E K)
  isplitl [H1]; · iexact H1
  isplitl [H3]; · iexact H3
  isplitl [H5]; · iexact H5
  isplitl [H6]; · iexact H6
  isplitl [H7]; · iexact H7
  isplitl [H15]; · iexact H15
  isplitl [H12]; · iexact H12
  isplitl [H13]; · iexact H13
  isplitl [H14]; · iexact H14
  isplitl [H10]; · iexists _; iexact H10
  isplitl [H11]; · iexists _; iexact H11
  iintro ⟨H1, H3, H5, H6, H7, H15, ⟨%f12, %hf12, H12⟩, ⟨%f13, %hf13, H13⟩, ⟨%f14, %hf14, H14⟩, ⟨%f10, H10⟩, ⟨%f11, H11⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · unfold owns; iexists _; isplitr
    swap; · iexact H10
    ipureintro; exact read10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14 f10
  isplitl [H11]
  · unfold owns; iexists _; isplitr
    swap; · iexact H11
    ipureintro; exact read11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14 f11
  isplitl [H12]
  · unfold owns; iexists _; isplitr
    swap; · iexact H12
    ipureintro; exact read12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14 f12 hf12
  isplitl [H13]
  · unfold owns; iexists _; isplitr
    swap; · iexact H13
    ipureintro; exact read13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14 f13
  isplitl [H14]
  · unfold owns; iexists _; isplitr
    swap; · iexact H14
    ipureintro; exact read14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 x1 x3 x5 x6 x7 x15 x12 x13 x14 f14
  isplitl [H15]
  · iexact H15
  iexact H16

set_option maxHeartbeats 1000000 in
/-- The sums turned into means, on the buffers. -/
theorem heldMean (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 x8 x9 x10 x11 x12 (fun y => meanAt x13 (y 0)) (fun y => meanAt x14 (y 0)) x15 x16 -∗ K ⟨⟩))
      ⊢ wp frame (wpE (defs₀ (F := I)) Variants.none c none) E (regMean (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held
  iintro ⟨⟨H1, H2, H3, H4, H5, H6, H7, H8, H9, H10, H11, H12, H13, H14, H15, H16⟩, Hk⟩
  iapply ((runMean (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x13 x14).2.2 E K)
  isplitl [H13]; · iexact H13
  isplitl [H14]; · iexact H14
  iintro ⟨⟨%f13, %hf13, H13⟩, ⟨%f14, %hf14, H14⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · unfold owns; iexists _; isplitr
    swap; · iexact H13
    ipureintro; exact readMean13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x13 x14 f13
  isplitl [H14]
  · unfold owns; iexists _; isplitr
    swap; · iexact H14
    ipureintro; exact readMean14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x13 x14 f14
  isplitl [H15]
  · iexact H15
  iexact H16

set_option maxHeartbeats 1000000 in
/-- A block of the second pass, on the buffers. -/
theorem heldPass2 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h4 : k0_cond4 i = 1#1)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 (fun y => dxAt x1 x3 (fun r l => x12 (ix3 (slab i) r l)) x13 x14 x15 (y 0) (y 1)) (fun y => dwAt x1 x3 x4 x7 x15 (y 0) (y 1)) x10 x11 x12 x13 x14 x15 (fun y => outAt x1 x3 x4 x15 (y 0) (y 1)) -∗ K ⟨⟩))
      ⊢ wp frame (wpE (defs₀ (F := I)) Variants.none c none) E (regPass2 (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4) K := by
  unfold held
  iintro ⟨⟨H1, H2, H3, H4, H5, H6, H7, H8, H9, H10, H11, H12, H13, H14, H15, H16⟩, Hk⟩
  iapply ((runPass2 (F := I) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).2.2.2 E K)
  isplitl [H1]; · iexact H1
  isplitl [H3]; · iexact H3
  isplitl [H4]; · iexact H4
  isplitl [H7]; · iexact H7
  isplitl [H12]; · iexact H12
  isplitl [H13]; · iexact H13
  isplitl [H14]; · iexact H14
  isplitl [H15]; · iexact H15
  isplitl [H16]; · iexists _; iexact H16
  isplitl [H8]; · iexists _; iexact H8
  isplitl [H9]; · iexists _; iexact H9
  iintro ⟨H1, H3, H4, H7, H12, H13, H14, H15, ⟨%f16, H16⟩, ⟨%f8, H8⟩, ⟨%f9, H9⟩⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr
    swap; · iexact H8
    ipureintro; exact read8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15 f8
  isplitl [H9]
  · unfold owns; iexists _; isplitr
    swap; · iexact H9
    ipureintro; exact read9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15 f9
  isplitl [H10]
  · iexact H10
  isplitl [H11]
  · iexact H11
  isplitl [H12]
  · iexact H12
  isplitl [H13]
  · iexact H13
  isplitl [H14]
  · iexact H14
  isplitl [H15]
  · iexact H15
  unfold owns; iexists _; isplitr
  swap; · iexact H16
  ipureintro; exact (tiled16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 x1 x3 x4 x7 x12 x13 x14 x15).read (fun y => by
        have h1 : (y 0).val < 256 := (y 0).isLt
        have h0 : (y 1).val < 1536 := (y 1).isLt
        unfold ByRows; omega) _ f16

/-- The body at the first point. -/
theorem atFirst (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (hi : (i 0).val = 0)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 x8 x9 (fun y => dgAt x1 x5 x6 x7 (fun y => colAt x2 (y 0) (y 1) (y 2)) (y 1)) (fun y => dbAt x5 x6 x7 (y 1)) (fun y => if (y 0).val = (i 0).val then dxhAt x5 x6 x7 (y 1) (y 2) else x12 y) (fun y => sumG2 x3 x5 x6 x7 (fun _ => (0 : EReal)) (y 0) (y 1)) (fun y => sumN2 x1 x3 x5 x6 x7 (fun y => colAt x2 (y 0) (y 1) (y 2)) (fun _ => (0 : EReal)) (y 0) (y 1)) (fun y => colAt x2 (y 0) (y 1) (y 2)) x16 -∗ K ⟨⟩))
      ⊢ wp frame (wpE (defs₀ (F := I)) Variants.none c none) E (cc0_ln_qkv_bwd (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b1.2 (by omega)) (b2.2 (by omega)) (fun h => by have := b3.1 h; omega) (fun h => by have := b4.1 h; omega)]
  rw [wp_bind]
  iintro ⟨H, Hk⟩
  iapply (heldInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 x9 x10 x11 x12 x13 x14 x15 x16 E _)
  isplitl [H]; · iexact H
  iintro H
  iapply (heldPass1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b2.2 (by omega)) x1 x2 x3 x4 x5 x6 x7 x8 x9 x10 x11 x12 (fun _ => (0 : EReal)) (fun _ => (0 : EReal)) (fun y => colAt x2 (y 0) (y 1) (y 2)) x16 E _)
  isplitl [H]; · iexact H
  iexact Hk

/-- The body at the other points of the first pass. -/
theorem atPass1 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (h0 : (i 0).val ≠ 0) (hi : (i 0).val < 14)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 x8 x9 (fun y => dgAt x1 x5 x6 x7 x15 (y 1)) (fun y => dbAt x5 x6 x7 (y 1)) (fun y => if (y 0).val = (i 0).val then dxhAt x5 x6 x7 (y 1) (y 2) else x12 y) (fun y => sumG2 x3 x5 x6 x7 x13 (y 0) (y 1)) (fun y => sumN2 x1 x3 x5 x6 x7 x15 x14 (y 0) (y 1)) x15 x16 -∗ K ⟨⟩))
      ⊢ wp frame (wpE (defs₀ (F := I)) Variants.none c none) E (cc0_ln_qkv_bwd (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_pass1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => by have := b1.1 h; omega) (b2.2 (by omega)) (fun h => by have := b3.1 h; omega) (fun h => by have := b4.1 h; omega)]
  exact heldPass1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b2.2 (by omega)) x1 x2 x3 x4 x5 x6 x7 x8 x9 x10 x11 x12 x13 x14 x15 x16 E K

/-- The body at the first point of the second pass. -/
theorem atTurn (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (hi : (i 0).val = 14)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 (fun y => dxAt x1 x3 (fun r l => x12 (ix3 (slab i) r l)) (fun y => meanAt x13 (y 0)) (fun y => meanAt x14 (y 0)) x15 (y 0) (y 1)) (fun y => dwAt x1 x3 x4 x7 x15 (y 0) (y 1)) x10 x11 x12 (fun y => meanAt x13 (y 0)) (fun y => meanAt x14 (y 0)) x15 (fun y => outAt x1 x3 x4 x15 (y 0) (y 1)) -∗ K ⟨⟩))
      ⊢ wp frame (wpE (defs₀ (F := I)) Variants.none c none) E (cc0_ln_qkv_bwd (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_turn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => by have := b1.1 h; omega) (fun h => by have := b2.1 h; omega) (b3.2 (by omega)) (b4.2 (by omega))]
  rw [wp_bind]
  iintro ⟨H, Hk⟩
  iapply (heldMean c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 x9 x10 x11 x12 x13 x14 x15 x16 E _)
  isplitl [H]; · iexact H
  iintro H
  iapply (heldPass2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b4.2 (by omega)) x1 x2 x3 x4 x5 x6 x7 x8 x9 x10 x11 x12 (fun y => meanAt x13 (y 0)) (fun y => meanAt x14 (y 0)) x15 x16 E _)
  isplitl [H]; · iexact H
  iexact Hk

/-- The body at the other points of the second pass. -/
theorem atPass2 (c : Dev nD) (i : grid0.Coords) (arg1 : Memref sig .tc .vmem S1536x256 .fp8e4m3) (harg1 : arg1.IsWhole) (arg2 : Memref sig .tc .vmem S3x12x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x4608 .fp8e4m3) (harg5 : arg5.IsWhole) (arg6 : Memref sig .tc .vmem S1x4608 .f32) (harg6 : arg6.IsWhole) (arg7 : Memref sig .tc .vmem S1536x4608 .bf16) (harg7 : arg7.IsWhole) (arg8 : Memref sig .tc .vmem S1536x256 .bf16) (harg8 : arg8.IsWhole) (arg9 : Memref sig .tc .vmem S256x4608 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S14x1536x256 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S3x1536x128 .f32) (harg15 : arg15.IsWhole) (arg16 : Memref sig .tc .vmem S256x1536 .bf16) (harg16 : arg16.IsWhole) (hi : 14 < (i 0).val)
    (x1 : Vec I S1536x256 .fp8e4m3) (x2 : Vec I S3x12x128 .f32) (x3 : Vec I S1x256 .f32) (x4 : Vec I S1x256 .f32) (x5 : Vec I S256x4608 .fp8e4m3) (x6 : Vec I S1x4608 .f32) (x7 : Vec I S1536x4608 .bf16) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (E : Set ℕ) (K : PUnit → sProp 𝕄) :
    iprop(held c arg1 arg2 arg3 arg4 arg5 arg6 arg7 arg8 arg9 arg10 arg11 arg12 arg13 arg14 arg15 arg16 x1 x2 x3 x4 x5 x6 x7 x8 x9 x10 x11 x12 x13 x14 x15 x16 ∗ (held c arg1 arg2 arg3 arg4 arg5 arg6 arg7 arg8 arg9 arg10 arg11 arg12 arg13 arg14 arg15 arg16 x1 x2 x3 x4 x5 x6 x7 (fun y => dxAt x1 x3 (fun r l => x12 (ix3 (slab i) r l)) x13 x14 x15 (y 0) (y 1)) (fun y => dwAt x1 x3 x4 x7 x15 (y 0) (y 1)) x10 x11 x12 x13 x14 x15 (fun y => outAt x1 x3 x4 x15 (y 0) (y 1)) -∗ K ⟨⟩))
      ⊢ wp frame (wpE (defs₀ (F := I)) Variants.none c none) E (cc0_ln_qkv_bwd (F := I) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨b1, b2, b3, b4⟩ := branches i
  rw [body_pass2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => by have := b1.1 h; omega) (fun h => by have := b2.1 h; omega) (fun h => by have := b3.1 h; omega) (b4.2 (by omega))]
  exact heldPass2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (b4.2 (by omega)) x1 x2 x3 x4 x5 x6 x7 x8 x9 x10 x11 x12 x13 x14 x15 x16 E K

end Cert.KernelIdeal.Hand

end
-- ==== Proof.Run.lean ====
/- The run of the whole grid: what every buffer holds at every point, and that the arguments stay unchanged. -/
module

public import proofs.«01_k».proof.Proof.Body
public import Idealize.ShloMosaic.Lib.Claim
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

local notation "I" => Idealize.ShloMosaic.Ideal

local notation "𝕄" => MT nD τ sig Unit (Elt I) ℕ (UR sig nD τ) ℕ

variable (m : (ℓ : Loc nD τ sig) → Buf (Elt I) ℓ) (ρ : Dev nD → PrngReg)

/-! ## The staging buffers and the scratch -/

/-- Window 0's staging buffer at point `t`. -/
abbrev ms0_0 (t : Fin cfg0.N) : Memref sig .tc .vmem S1536x256 .fp8e4m3 := win0_0.stage (cfg0.slots t 0)
/-- It is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S3x12x128 .f32 := win0_1.stage (cfg0.slots t 1)
/-- It is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1x256 .f32 := win0_2.stage (cfg0.slots t 2)
/-- It is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x256 .f32 := win0_3.stage (cfg0.slots t 3)
/-- It is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S256x4608 .fp8e4m3 := win0_4.stage (cfg0.slots t 4)
/-- It is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S1x4608 .f32 := win0_5.stage (cfg0.slots t 5)
/-- It is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S1536x4608 .bf16 := win0_6.stage (cfg0.slots t 6)
/-- It is a whole buffer. -/
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S1536x256 .bf16 := win0_7.stage (cfg0.slots t 7)
/-- It is a whole buffer. -/
abbrev hs0_7 (t : Fin cfg0.N) : (ms0_7 t).IsWhole := hstage0_7 ((cfg0.slots t 7).cast nbuf0_7)
/-- Window 8's staging buffer at point `t`. -/
abbrev ms0_8 (t : Fin cfg0.N) : Memref sig .tc .vmem S256x4608 .f32 := win0_8.stage (cfg0.slots t 8)
/-- It is a whole buffer. -/
abbrev hs0_8 (t : Fin cfg0.N) : (ms0_8 t).IsWhole := hstage0_8 ((cfg0.slots t 8).cast nbuf0_8)
/-- Window 9's staging buffer at point `t`. -/
abbrev ms0_9 (t : Fin cfg0.N) : Memref sig .tc .vmem S1x256 .f32 := win0_9.stage (cfg0.slots t 9)
/-- It is a whole buffer. -/
abbrev hs0_9 (t : Fin cfg0.N) : (ms0_9 t).IsWhole := hstage0_9 ((cfg0.slots t 9).cast nbuf0_9)
/-- Window 10's staging buffer at point `t`. -/
abbrev ms0_10 (t : Fin cfg0.N) : Memref sig .tc .vmem S1x256 .f32 := win0_10.stage (cfg0.slots t 10)
/-- It is a whole buffer. -/
abbrev hs0_10 (t : Fin cfg0.N) : (ms0_10 t).IsWhole := hstage0_10 ((cfg0.slots t 10).cast nbuf0_10)
/-- Scratch buffer 0. -/
abbrev scM0_0 : Memref sig .tc .vmem S14x1536x256 .f32 := Memref.whole cc0_scratch0
/-- Scratch buffer 1. -/
abbrev scM0_1 : Memref sig .tc .vmem S1536x128 .f32 := Memref.whole cc0_scratch1
/-- Scratch buffer 2. -/
abbrev scM0_2 : Memref sig .tc .vmem S1536x128 .f32 := Memref.whole cc0_scratch2
/-- Scratch buffer 3. -/
abbrev scM0_3 : Memref sig .tc .vmem S3x1536x128 .f32 := Memref.whole cc0_scratch3
/-- Scratch buffer 4. -/
abbrev scM0_4 : Memref sig .tc .vmem S256x1536 .bf16 := Memref.whole cc0_scratch4

/-- The scratch and the generator register, at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The values -/

/-- The point of a block's first visit. -/
def pt (j : Fin 14) : Fin cfg0.N := ⟨j.val, Nat.lt_of_lt_of_le j.isLt (by decide)⟩

/-- The rows' three numbers (scale, mean's product, deviation), repeated along the lanes. -/
def colV (c : Dev nD) : Vec I S3x1536x128 .f32 := fun y => colAt (iblk m c 1 (pt 0)) (y 0) (y 1) (y 2)

/-- Block `j`'s gradient of the normalised and scaled input. -/
def dxhV (c : Dev nD) (j : Fin 14) (r : Fin 1536) (l : Fin 256) : EReal := dxhAt (iblk m c 4 (pt j)) (iblk m c 5 (pt j)) (iblk m c 6 (pt j)) r l

/-- The first running sum after `n` points, and its mean after the turn. -/
def sumGV (c : Dev nD) : ℕ → Vec I S1536x128 .f32
  | 0 => fun _ => (0 : EReal)
  | n + 1 => if h : n < 14 then fun y => sumG2 (iblk m c 2 (pt ⟨n, h⟩)) (iblk m c 4 (pt ⟨n, h⟩)) (iblk m c 5 (pt ⟨n, h⟩)) (iblk m c 6 (pt ⟨n, h⟩)) (sumGV c n) (y 0) (y 1)
      else if n = 14 then fun y => meanAt (sumGV c n) (y 0) else sumGV c n

/-- The second running sum after `n` points, and its mean after the turn. -/
def sumNV (c : Dev nD) : ℕ → Vec I S1536x128 .f32
  | 0 => fun _ => (0 : EReal)
  | n + 1 => if h : n < 14 then fun y => sumN2 (iblk m c 0 (pt ⟨n, h⟩)) (iblk m c 2 (pt ⟨n, h⟩)) (iblk m c 4 (pt ⟨n, h⟩)) (iblk m c 5 (pt ⟨n, h⟩)) (iblk m c 6 (pt ⟨n, h⟩)) (colV m c) (sumNV c n) (y 0) (y 1)
      else if n = 14 then fun y => meanAt (sumNV c n) (y 0) else sumNV c n

/-- The block a point of the second pass works on (the first block, before). -/
def blkOf (t : Fin cfg0.N) : Fin 14 := ⟨t.val - 14, by have h : t.val < 28 := t.isLt; omega⟩

/-- The block a point of the first pass works on (the last block, after). -/
def lastOf (t : Fin cfg0.N) : Fin 14 := ⟨min t.val 13, by omega⟩

/-- What a point of the second pass leaves of the gradient of the input, -/
def dxV (c : Dev nD) (t : Fin cfg0.N) : Vec I S1536x256 .bf16 := fun y =>
  dxAt (iblk m c 0 t) (iblk m c 2 t) (dxhV m c (blkOf t)) (sumGV m c (t.val + 1)) (sumNV m c (t.val + 1)) (colV m c) (y 0) (y 1)

/-- of the gradient of the weights, -/
def dwV (c : Dev nD) (t : Fin cfg0.N) : Vec I S256x4608 .f32 := fun y =>
  dwAt (iblk m c 0 t) (iblk m c 2 t) (iblk m c 3 t) (iblk m c 6 t) (colV m c) (y 0) (y 1)

/-- and what a point of the first pass leaves of the gradient of the scale -/
def dgV (c : Dev nD) (j : Fin 14) : Vec I S1x256 .f32 := fun y =>
  dgAt (iblk m c 0 (pt j)) (iblk m c 4 (pt j)) (iblk m c 5 (pt j)) (iblk m c 6 (pt j)) (colV m c) (y 1)

/-- and of the shift. -/
def dbV (c : Dev nD) (j : Fin 14) : Vec I S1x256 .f32 := fun y => dbAt (iblk m c 4 (pt j)) (iblk m c 5 (pt j)) (iblk m c 6 (pt j)) (y 1)

/-- The first `n` slabs hold their blocks' gradients. -/
def Slabs (c : Dev nD) (n : ℕ) (D : Vec I S14x1536x256 .f32) : Prop := ∀ (j : Fin 14) (r : Fin 1536) (l : Fin 256), j.val < n → D (ix3 j r l) = dxhV m c j r l

/-- The scratch after `n` points, the first of them done. -/
def scratchAt (c : Dev nD) (n : ℕ) : sProp 𝕄 :=
  iprop(iprop((∃ D, ⌜Slabs m c n D⌝ ∗ owns (c : Thread nD τ) scM0_0 fullShare D) ∗ owns (c : Thread nD τ) scM0_1 fullShare (sumGV m c n) ∗ owns (c : Thread nD τ) scM0_2 fullShare (sumNV m c n) ∗ owns (c : Thread nD τ) scM0_3 fullShare (colV m c) ∗ (∃ d, owns (c : Thread nD τ) scM0_4 fullShare d)) ∗ (∃ r, prngReg c r))

/-- The scratch after `n` points. -/
def PhiS (c : Dev nD) : ℕ → sProp 𝕄
  | 0 => Pipeline.ΦA spec0 c
  | n + 1 => scratchAt m c (n + 1)

/-! ## The pipeline's data -/

/-- What is stated of the pipeline on core `c`: the arrays as launched, every buffer's contents after every point. -/
def dats (_ : Fin 1) (c : Dev nD) : Dat τ (Elt I) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxV m c t
    | ⟨8, _⟩ => dwV m c t
    | ⟨9, _⟩ => dgV m c (lastOf t)
    | ⟨10, _⟩ => dbV m c (lastOf t)
  Φ t := PhiS m c t.val
  q _ := fullShare
  owed _ := 0

/-- The arrays are as launched. -/
theorem A_eq (c : Dev nD) (w : Fin cfg0.W) : (dats m 0 c).A w = V m c (Pipeline.arrRef spec0 w) := by
  dsimp only [dats]

/-- Input 0's buffer holds its block after a point, -/
theorem after0_0 (c : Dev nD) (t : Fin cfg0.N) : (dats m 0 c).after 0 t = iblk m c 0 t := by dsimp only [dats]
/-- before it, -/
theorem before0_0 (c : Dev nD) (t : Fin cfg0.N) (d) : (dats m 0 c).before 0 t d = iblk m c 0 t :=
  before0_0_of m (dats m 0 c) (A_eq m c 0) (after0_0 m c) t d
/-- and so it is left. -/
theorem leaves0_0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after0_0]
/-- Input 1's buffer holds its block after a point, -/
theorem after0_1 (c : Dev nD) (t : Fin cfg0.N) : (dats m 0 c).after 1 t = iblk m c 1 t := by dsimp only [dats]
/-- before it, -/
theorem before0_1 (c : Dev nD) (t : Fin cfg0.N) (d) : (dats m 0 c).before 1 t d = iblk m c 1 t :=
  before0_1_of m (dats m 0 c) (A_eq m c 1) (after0_1 m c) t d
/-- and so it is left. -/
theorem leaves0_1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after0_1]
/-- Input 2's buffer holds its block after a point, -/
theorem after0_2 (c : Dev nD) (t : Fin cfg0.N) : (dats m 0 c).after 2 t = iblk m c 2 t := by dsimp only [dats]
/-- before it, -/
theorem before0_2 (c : Dev nD) (t : Fin cfg0.N) (d) : (dats m 0 c).before 2 t d = iblk m c 2 t :=
  before0_2_of m (dats m 0 c) (A_eq m c 2) (after0_2 m c) t d
/-- and so it is left. -/
theorem leaves0_2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after0_2]
/-- Input 3's buffer holds its block after a point, -/
theorem after0_3 (c : Dev nD) (t : Fin cfg0.N) : (dats m 0 c).after 3 t = iblk m c 3 t := by dsimp only [dats]
/-- before it, -/
theorem before0_3 (c : Dev nD) (t : Fin cfg0.N) (d) : (dats m 0 c).before 3 t d = iblk m c 3 t :=
  before0_3_of m (dats m 0 c) (A_eq m c 3) (after0_3 m c) t d
/-- and so it is left. -/
theorem leaves0_3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after0_3]
/-- Input 4's buffer holds its block after a point, -/
theorem after0_4 (c : Dev nD) (t : Fin cfg0.N) : (dats m 0 c).after 4 t = iblk m c 4 t := by dsimp only [dats]
/-- before it, -/
theorem before0_4 (c : Dev nD) (t : Fin cfg0.N) (d) : (dats m 0 c).before 4 t d = iblk m c 4 t :=
  before0_4_of m (dats m 0 c) (A_eq m c 4) (after0_4 m c) t d
/-- and so it is left. -/
theorem leaves0_4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after0_4]
/-- Input 5's buffer holds its block after a point, -/
theorem after0_5 (c : Dev nD) (t : Fin cfg0.N) : (dats m 0 c).after 5 t = iblk m c 5 t := by dsimp only [dats]
/-- before it, -/
theorem before0_5 (c : Dev nD) (t : Fin cfg0.N) (d) : (dats m 0 c).before 5 t d = iblk m c 5 t :=
  before0_5_of m (dats m 0 c) (A_eq m c 5) (after0_5 m c) t d
/-- and so it is left. -/
theorem leaves0_5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after0_5]
/-- Input 6's buffer holds its block after a point, -/
theorem after0_6 (c : Dev nD) (t : Fin cfg0.N) : (dats m 0 c).after 6 t = iblk m c 6 t := by dsimp only [dats]
/-- before it, -/
theorem before0_6 (c : Dev nD) (t : Fin cfg0.N) (d) : (dats m 0 c).before 6 t d = iblk m c 6 t :=
  before0_6_of m (dats m 0 c) (A_eq m c 6) (after0_6 m c) t d
/-- and so it is left. -/
theorem leaves0_6 (c : Dev nD) (t : Fin cfg0.N) :
    (dats m 0 c).leavesExact 6 t = owns (c : Thread nD τ) (ms0_6 t) fullShare (iblk m c 6 t) := by
  unfold Dat.leavesExact; rw [show cfg0.idle 6 (grid0.coords t) = false from rfl, after0_6]
/-- Output 7's contents after a point. -/
theorem after0_7 (c : Dev nD) (t : Fin cfg0.N) : (dats m 0 c).after 7 t = dxV m c t := by dsimp only [dats]
/-- Output 8's contents after a point. -/
theorem after0_8 (c : Dev nD) (t : Fin cfg0.N) : (dats m 0 c).after 8 t = dwV m c t := by dsimp only [dats]
/-- Output 9's contents after a point. -/
theorem after0_9 (c : Dev nD) (t : Fin cfg0.N) : (dats m 0 c).after 9 t = dgV m c (lastOf t) := by dsimp only [dats]
/-- Output 10's contents after a point. -/
theorem after0_10 (c : Dev nD) (t : Fin cfg0.N) : (dats m 0 c).after 10 t = dbV m c (lastOf t) := by dsimp only [dats]
/-- Output 7 is not touched in the first pass -/
theorem idle0_7 : ∀ t : Fin cfg0.N, t.val < 14 → cfg0.idle 7 (cfg0.grid.coords t) = true ∧ (cfg0.win 7).flush t = false :=
  (by decide +kernel : ∀ t : Fin grid0.N, t.val < 14 → idle0 7 (grid0.coords t) = true ∧ win0_7.flush t = false)
/-- and written in the second. -/
theorem live0_7 : ∀ t : Fin cfg0.N, 14 ≤ t.val → cfg0.idle 7 (cfg0.grid.coords t) = false :=
  (by decide +kernel : ∀ t : Fin grid0.N, 14 ≤ t.val → idle0 7 (grid0.coords t) = false)
/-- What the first pass leaves of it: what it found. -/
theorem pass0_7 (c : Dev nD) (t : Fin cfg0.N) (h : t.val < 14) (d) :
    owns (c : Thread nD τ) (ms0_7 t) fullShare ((dats m 0 c).before 7 t d) ⊢ ((dats m 0 c).leavesExact 7 t : sProp 𝕄) := by
  rw [(dats m 0 c).leavesExact_idle 7 t (idle0_7 t h).1 (idle0_7 t h).2]
  iintro H; iexists d; iexact H
/-- What the second pass leaves of it. -/
theorem leaves0_7 (c : Dev nD) (t : Fin cfg0.N) (h : 14 ≤ t.val) :
    (dats m 0 c).leavesExact 7 t = owns (c : Thread nD τ) (ms0_7 t) fullShare ((dats m 0 c).after 7 t) := by
  unfold Dat.leavesExact; rw [live0_7 t h]
/-- Output 8 is not touched in the first pass -/
theorem idle0_8 : ∀ t : Fin cfg0.N, t.val < 14 → cfg0.idle 8 (cfg0.grid.coords t) = true ∧ (cfg0.win 8).flush t = false :=
  (by decide +kernel : ∀ t : Fin grid0.N, t.val < 14 → idle0 8 (grid0.coords t) = true ∧ win0_8.flush t = false)
/-- and written in the second. -/
theorem live0_8 : ∀ t : Fin cfg0.N, 14 ≤ t.val → cfg0.idle 8 (cfg0.grid.coords t) = false :=
  (by decide +kernel : ∀ t : Fin grid0.N, 14 ≤ t.val → idle0 8 (grid0.coords t) = false)
/-- What the first pass leaves of it: what it found. -/
theorem pass0_8 (c : Dev nD) (t : Fin cfg0.N) (h : t.val < 14) (d) :
    owns (c : Thread nD τ) (ms0_8 t) fullShare ((dats m 0 c).before 8 t d) ⊢ ((dats m 0 c).leavesExact 8 t : sProp 𝕄) := by
  rw [(dats m 0 c).leavesExact_idle 8 t (idle0_8 t h).1 (idle0_8 t h).2]
  iintro H; iexists d; iexact H
/-- What the second pass leaves of it. -/
theorem leaves0_8 (c : Dev nD) (t : Fin cfg0.N) (h : 14 ≤ t.val) :
    (dats m 0 c).leavesExact 8 t = owns (c : Thread nD τ) (ms0_8 t) fullShare ((dats m 0 c).after 8 t) := by
  unfold Dat.leavesExact; rw [live0_8 t h]
/-- Output 9 is written in the first pass, -/
theorem live0_9 : ∀ t : Fin cfg0.N, t.val < 14 → cfg0.idle 9 (cfg0.grid.coords t) = false :=
  (by decide +kernel : ∀ t : Fin grid0.N, t.val < 14 → idle0 9 (grid0.coords t) = false)
/-- not touched in the second, -/
theorem idle0_9 : ∀ t : Fin cfg0.N, 14 ≤ t.val → cfg0.idle 9 (cfg0.grid.coords t) = true :=
  (by decide +kernel : ∀ t : Fin grid0.N, 14 ≤ t.val → idle0 9 (grid0.coords t) = true)
/-- and its last block is written back at the end only. -/
theorem keep0_9 : ∀ t : Fin cfg0.N, 13 ≤ t.val → t.val < 27 → (cfg0.win 9).flush t = false :=
  (by decide +kernel : ∀ t : Fin grid0.N, 13 ≤ t.val → t.val < 27 → win0_9.flush t = false)
/-- It is not fetched. -/
theorem nofetch0_9 : ∀ t : Fin cfg0.N, (cfg0.win 9).fetch t = false :=
  (by decide +kernel : ∀ t : Fin grid0.N, win0_9.fetch t = false)
/-- At the last point it is found as the first pass left it. -/
theorem found0_9 (c : Dev nD) (t : Fin cfg0.N) (h : t.val = 27) (d) : (dats m 0 c).before 9 t d = (dats m 0 c).after 9 t := by
  obtain ⟨v, hv⟩ := t
  obtain rfl : v = 27 := h
  rw [(dats m 0 c).before_idle_run 9 (nofetch0_9) d 13 ⟨27, hv⟩ (show 13 ≤ 27 by decide) (fun j hj hlt => ⟨idle0_9 j (by have : 27 - 13 ≤ j.val := hj; omega), keep0_9 j (by have : 27 - 13 ≤ j.val := hj; omega) hlt⟩)]
  rw [(dats m 0 c).before_of_pos 9 ⟨27 - 13, by decide⟩ (by decide) (nofetch0_9 _) d]
  rw [show (cfg0.win 9).flush ⟨(⟨27 - 13, by decide⟩ : Fin cfg0.N).val - 1, by decide⟩ = false from keep0_9 _ (by decide) (by decide)]
  unfold Dat.left
  rw [show cfg0.idle 9 (cfg0.grid.coords ⟨(⟨27 - 13, by decide⟩ : Fin cfg0.N).val - 1, by decide⟩) = false from live0_9 _ (by decide)]
  rfl
/-- What the first pass leaves of it. -/
theorem leaves0_9 (c : Dev nD) (t : Fin cfg0.N) (h : t.val < 14) :
    (dats m 0 c).leavesExact 9 t = owns (c : Thread nD τ) (ms0_9 t) fullShare ((dats m 0 c).after 9 t) := by
  unfold Dat.leavesExact; rw [live0_9 t h]
/-- What the second pass leaves of it: what it found. -/
theorem pass0_9 (c : Dev nD) (t : Fin cfg0.N) (h : 14 ≤ t.val) (d) :
    owns (c : Thread nD τ) (ms0_9 t) fullShare ((dats m 0 c).before 9 t d) ⊢ ((dats m 0 c).leavesExact 9 t : sProp 𝕄) := by
  by_cases h27 : t.val < 27
  · rw [(dats m 0 c).leavesExact_idle 9 t (idle0_9 t h) (keep0_9 t (by omega) h27)]
    iintro H; iexists d; iexact H
  · have h28 : t.val < 28 := t.isLt
    rw [found0_9 m c t (by omega) d]
    unfold Dat.leavesExact; rw [idle0_9 t h]
    cases (cfg0.win 9).flush t
    · iintro H; iexists d; rw [found0_9 m c t (by omega) d]; iexact H
    · iintro H; iexact H
/-- Output 10 is written in the first pass, -/
theorem live0_10 : ∀ t : Fin cfg0.N, t.val < 14 → cfg0.idle 10 (cfg0.grid.coords t) = false :=
  (by decide +kernel : ∀ t : Fin grid0.N, t.val < 14 → idle0 10 (grid0.coords t) = false)
/-- not touched in the second, -/
theorem idle0_10 : ∀ t : Fin cfg0.N, 14 ≤ t.val → cfg0.idle 10 (cfg0.grid.coords t) = true :=
  (by decide +kernel : ∀ t : Fin grid0.N, 14 ≤ t.val → idle0 10 (grid0.coords t) = true)
/-- and its last block is written back at the end only. -/
theorem keep0_10 : ∀ t : Fin cfg0.N, 13 ≤ t.val → t.val < 27 → (cfg0.win 10).flush t = false :=
  (by decide +kernel : ∀ t : Fin grid0.N, 13 ≤ t.val → t.val < 27 → win0_10.flush t = false)
/-- It is not fetched. -/
theorem nofetch0_10 : ∀ t : Fin cfg0.N, (cfg0.win 10).fetch t = false :=
  (by decide +kernel : ∀ t : Fin grid0.N, win0_10.fetch t = false)
/-- At the last point it is found as the first pass left it. -/
theorem found0_10 (c : Dev nD) (t : Fin cfg0.N) (h : t.val = 27) (d) : (dats m 0 c).before 10 t d = (dats m 0 c).after 10 t := by
  obtain ⟨v, hv⟩ := t
  obtain rfl : v = 27 := h
  rw [(dats m 0 c).before_idle_run 10 (nofetch0_10) d 13 ⟨27, hv⟩ (show 13 ≤ 27 by decide) (fun j hj hlt => ⟨idle0_10 j (by have : 27 - 13 ≤ j.val := hj; omega), keep0_10 j (by have : 27 - 13 ≤ j.val := hj; omega) hlt⟩)]
  rw [(dats m 0 c).before_of_pos 10 ⟨27 - 13, by decide⟩ (by decide) (nofetch0_10 _) d]
  rw [show (cfg0.win 10).flush ⟨(⟨27 - 13, by decide⟩ : Fin cfg0.N).val - 1, by decide⟩ = false from keep0_10 _ (by decide) (by decide)]
  unfold Dat.left
  rw [show cfg0.idle 10 (cfg0.grid.coords ⟨(⟨27 - 13, by decide⟩ : Fin cfg0.N).val - 1, by decide⟩) = false from live0_10 _ (by decide)]
  rfl
/-- What the first pass leaves of it. -/
theorem leaves0_10 (c : Dev nD) (t : Fin cfg0.N) (h : t.val < 14) :
    (dats m 0 c).leavesExact 10 t = owns (c : Thread nD τ) (ms0_10 t) fullShare ((dats m 0 c).after 10 t) := by
  unfold Dat.leavesExact; rw [live0_10 t h]
/-- What the second pass leaves of it: what it found. -/
theorem pass0_10 (c : Dev nD) (t : Fin cfg0.N) (h : 14 ≤ t.val) (d) :
    owns (c : Thread nD τ) (ms0_10 t) fullShare ((dats m 0 c).before 10 t d) ⊢ ((dats m 0 c).leavesExact 10 t : sProp 𝕄) := by
  by_cases h27 : t.val < 27
  · rw [(dats m 0 c).leavesExact_idle 10 t (idle0_10 t h) (keep0_10 t (by omega) h27)]
    iintro H; iexists d; iexact H
  · have h28 : t.val < 28 := t.isLt
    rw [found0_10 m c t (by omega) d]
    unfold Dat.leavesExact; rw [idle0_10 t h]
    cases (cfg0.win 10).flush t
    · iintro H; iexists d; rw [found0_10 m c t (by omega) d]; iexact H
    · iintro H; iexact H

/-! ## The body at a point -/

/-- The point's own coordinate is its number. -/
theorem coord_val (t : Fin cfg0.N) : (grid0.coords t 0).val = t.val :=
  (by decide +kernel : ∀ t : Fin grid0.N, (grid0.coords t 0).val = t.val) t

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- From what the body does to its buffers to what it returns. -/
theorem body_step (c : Dev nD) (t : Fin cfg0.N) (x8 : Vec I S1536x256 .bf16) (x9 : Vec I S256x4608 .f32) (x10 : Vec I S1x256 .f32) (x11 : Vec I S1x256 .f32) (x12 : Vec I S14x1536x256 .f32) (x13 : Vec I S1536x128 .f32) (x14 : Vec I S1536x128 .f32) (x15 : Vec I S3x1536x128 .f32) (x16 : Vec I S256x1536 .bf16) (z8 : Vec I S1536x256 .bf16) (z9 : Vec I S256x4608 .f32) (z10 : Vec I S1x256 .f32) (z11 : Vec I S1x256 .f32) (z12 : Vec I S14x1536x256 .f32) (z13 : Vec I S1536x128 .f32) (z14 : Vec I S1536x128 .f32) (z15 : Vec I S3x1536x128 .f32) (z16 : Vec I S256x1536 .bf16)
    (hb : ∀ K : PUnit → sProp 𝕄, iprop(held c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 (iblk m c 0 t) (iblk m c 1 t) (iblk m c 2 t) (iblk m c 3 t) (iblk m c 4 t) (iblk m c 5 t) (iblk m c 6 t) x8 x9 x10 x11 x12 x13 x14 x15 x16 ∗ (held c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 (iblk m c 0 t) (iblk m c 1 t) (iblk m c 2 t) (iblk m c 3 t) (iblk m c 4 t) (iblk m c 5 t) (iblk m c 6 t) z8 z9 z10 z11 z12 z13 z14 z15 z16 -∗ K ⟨⟩))
      ⊢ wp frame (wpE (defs₀ (F := I)) Variants.none c none) Set.univ (bodyAt0 (F := I) t) K)
    (h7 : owns (c : Thread nD τ) (ms0_7 t) fullShare z8 ⊢ ((dats m 0 c).leavesExact 7 t : sProp 𝕄))
    (h8 : owns (c : Thread nD τ) (ms0_8 t) fullShare z9 ⊢ ((dats m 0 c).leavesExact 8 t : sProp 𝕄))
    (h9 : owns (c : Thread nD τ) (ms0_9 t) fullShare z10 ⊢ ((dats m 0 c).leavesExact 9 t : sProp 𝕄))
    (h10 : owns (c : Thread nD τ) (ms0_10 t) fullShare z11 ⊢ ((dats m 0 c).leavesExact 10 t : sProp 𝕄))
    (h12 : Slabs m c (t.val + 1) z12) (h13 : z13 = sumGV m c (t.val + 1)) (h14 : z14 = sumNV m c (t.val + 1)) (h15 : z15 = colV m c) :
    iprop(iprop(iprop(owns (c : Thread nD τ) scM0_0 fullShare x12 ∗ owns (c : Thread nD τ) scM0_1 fullShare x13 ∗ owns (c : Thread nD τ) scM0_2 fullShare x14 ∗ owns (c : Thread nD τ) scM0_3 fullShare x15 ∗ owns (c : Thread nD τ) scM0_4 fullShare x16) ∗ (∃ r, prngReg c r)) ∗ (dats m 0 c).owesAt () t.castSucc
      ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
      ∗ owns (c : Thread nD τ) (ms0_7 t) fullShare x8 ∗ owns (c : Thread nD τ) (ms0_8 t) fullShare x9 ∗ owns (c : Thread nD τ) (ms0_9 t) fullShare x10 ∗ owns (c : Thread nD τ) (ms0_10 t) fullShare x11)
      ⊢ wp frame (wpE (defs₀ (F := I)) Variants.none c none) Set.univ (bodyAt0 t) (fun _ => bodyPost m c t) := by
  subst h13; subst h14; subst h15
  unfold bodyPost
  simp only [leaves0_0, leaves0_1, leaves0_2, leaves0_3, leaves0_4, leaves0_5, leaves0_6]
  rw [show (dats m 0 c).owesAt () t.succ = (dats m 0 c).owesAt () t.castSucc from rfl,
    show (dats m 0 c).Φ t.succ = scratchAt m c (t.val + 1) from rfl]
  iintro ⟨⟨⟨HS0, HS1, HS2, HS3, HS4⟩, Hg⟩, Ho, H0, H1, H2, H3, H4, H5, H6, H7, H8, H9, H10⟩
  iapply (hb _)
  isplitl [H0 H1 H2 H3 H4 H5 H6 H7 H8 H9 H10 HS0 HS1 HS2 HS3 HS4]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iexact HS4
  unfold held scratchAt
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]
      · iexists z12
        isplitl []
        · ipureintro; exact h12
        iexact HS0
      isplitl [HS1]; · iexact HS1
      isplitl [HS2]; · iexact HS2
      isplitl [HS3]; · iexact HS3
      iexists z16; iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply h7; iexact H7
  isplitl [H8]; · iapply h8; iexact H8
  isplitl [H9]; · iapply h9; iexact H9
  iapply h10; iexact H10

/-- A point of the first pass is its block's first visit. -/
theorem pt_eq (t : Fin cfg0.N) (h : t.val < 14) : pt ⟨t.val, h⟩ = t := rfl

/-- and its block is the point's. -/
theorem pt_lastOf (t : Fin cfg0.N) (h : t.val < 14) : pt (lastOf t) = t := Fin.ext (by show min t.val 13 = t.val; omega)

/-- The running sum one block on. -/
theorem sumGV_pass1 (c : Dev nD) (t : Fin cfg0.N) (h : t.val < 14) :
    sumGV m c (t.val + 1) = fun y => sumG2 (iblk m c 2 t) (iblk m c 4 t) (iblk m c 5 t) (iblk m c 6 t) (sumGV m c t.val) (y 0) (y 1) := by
  rw [sumGV, dif_pos h]; rfl
/-- The other running sum one block on. -/
theorem sumNV_pass1 (c : Dev nD) (t : Fin cfg0.N) (h : t.val < 14) :
    sumNV m c (t.val + 1) = fun y => sumN2 (iblk m c 0 t) (iblk m c 2 t) (iblk m c 4 t) (iblk m c 5 t) (iblk m c 6 t) (colV m c) (sumNV m c t.val) (y 0) (y 1) := by
  rw [sumNV, dif_pos h]; rfl
/-- At the turn the sum becomes its mean, -/
theorem sumGV_turn (c : Dev nD) (n : ℕ) (h : n = 14) : sumGV m c (n + 1) = fun y => meanAt (sumGV m c n) (y 0) := by
  rw [sumGV, dif_neg (by omega), if_pos h]
/-- and the other sum too. -/
theorem sumNV_turn (c : Dev nD) (n : ℕ) (h : n = 14) : sumNV m c (n + 1) = fun y => meanAt (sumNV m c n) (y 0) := by
  rw [sumNV, dif_neg (by omega), if_pos h]
/-- After the turn they stay, -/
theorem sumGV_pass2 (c : Dev nD) (n : ℕ) (h : 14 < n) : sumGV m c (n + 1) = sumGV m c n := by
  rw [sumGV, dif_neg (by omega), if_neg (by omega)]
/-- both. -/
theorem sumNV_pass2 (c : Dev nD) (n : ℕ) (h : 14 < n) : sumNV m c (n + 1) = sumNV m c n := by
  rw [sumNV, dif_neg (by omega), if_neg (by omega)]

/-- A block stored: one more slab holds its gradient. -/
theorem Slabs.step {c : Dev nD} {t : Fin cfg0.N} {D : Vec I S14x1536x256 .f32} (h : Slabs m c t.val D) (ht : t.val < 14) :
    Slabs m c (t.val + 1) (fun y => if (y 0).val = (grid0.coords t 0).val then dxhAt (iblk m c 4 t) (iblk m c 5 t) (iblk m c 6 t) (y 1) (y 2) else D y) := by
  intro j r l hj
  show (if j.val = (grid0.coords t 0).val then dxhAt (iblk m c 4 t) (iblk m c 5 t) (iblk m c 6 t) r l else D (ix3 j r l)) = _
  rw [coord_val]
  by_cases e : j.val = t.val
  · rw [if_pos e]
    obtain rfl : pt j = t := Fin.ext e
    rfl
  · rw [if_neg e]; exact h j r l (by omega)

/-- The slab of a point of the second pass is its block's. -/
theorem slab_coords (t : Fin cfg0.N) (h : 14 ≤ t.val) : slab (grid0.coords t) = blkOf t :=
  (by decide +kernel : ∀ t : Fin grid0.N, 14 ≤ t.val → (slab (grid0.coords t)).val = t.val - 14) t h |> Fin.ext

/-- All slabs filled: a point of the second pass finds its block's gradient. -/
theorem Slabs.read {c : Dev nD} {t : Fin cfg0.N} {D : Vec I S14x1536x256 .f32} (h : Slabs m c t.val D) (ht : 14 ≤ t.val) :
    (fun r l => D (ix3 (slab (grid0.coords t)) r l)) = dxhV m c (blkOf t) := by
  funext r l
  rw [slab_coords t ht]
  exact h _ r l (by have := (blkOf t).isLt; omega)

/-- All slabs filled stay so. -/
theorem Slabs.stay {c : Dev nD} {n : ℕ} {D : Vec I S14x1536x256 .f32} (h : Slabs m c n D) (hn : 14 ≤ n) : Slabs m c (n + 1) D :=
  fun j r l _ => h j r l (by have := j.isLt; omega)

/-- The body at the first point. -/
theorem sound_first (c : Dev nD) (t : Fin cfg0.N) (h : t.val = 0) :
    bodyPre m c t ⊢ wp frame (wpE (defs₀ (F := I)) Variants.none c none) Set.univ (bodyAt0 t) (fun _ => bodyPost m c t) := by
  unfold bodyPre
  simp only [before0_0, before0_1, before0_2, before0_3, before0_4, before0_5, before0_6]
  have e0 : pt 0 = t := Fin.ext h.symm
  rw [show (dats m 0 c).Φ t.castSucc = PhiS m c t.val from rfl, h, show PhiS m c 0 = Pipeline.ΦA spec0 c from rfl, PhiA0_eq]
  iintro ⟨⟨⟨⟨%x12, HS0⟩, ⟨%x13, HS1⟩, ⟨%x14, HS2⟩, ⟨%x15, HS3⟩, ⟨%x16, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_step m c t _ _ _ _ x12 x13 x14 x15 x16 _ _ _ _ _ _ _ _ _
    (fun K => atFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((coord_val t).trans h) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) x12 x13 x14 x15 x16 Set.univ K)
    (pass0_7 m c t (by omega) d7) (pass0_8 m c t (by omega) d8)
    (by rw [leaves0_9 m c t (by omega), after0_9]; unfold dgV; rw [pt_lastOf t (by omega)]; unfold colV; rw [e0])
    (by rw [leaves0_10 m c t (by omega), after0_10]; unfold dbV; rw [pt_lastOf t (by omega)])
    (Slabs.step m (fun j r l hj => absurd hj (by omega)) (by omega))
    (by rw [sumGV_pass1 m c t (by omega), h]; rfl)
    (by rw [sumNV_pass1 m c t (by omega), h]; unfold colV; rw [e0]; rfl)
    (by unfold colV; rw [e0]))
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at the other points of the first pass. -/
theorem sound_pass1 (c : Dev nD) (t : Fin cfg0.N) (h0 : 0 < t.val) (h : t.val < 14) :
    bodyPre m c t ⊢ wp frame (wpE (defs₀ (F := I)) Variants.none c none) Set.univ (bodyAt0 t) (fun _ => bodyPost m c t) := by
  unfold bodyPre
  simp only [before0_0, before0_1, before0_2, before0_3, before0_4, before0_5, before0_6]
  have hv := coord_val t
  obtain ⟨n, hn⟩ : ∃ n, t.val = n + 1 := ⟨t.val - 1, by omega⟩
  rw [show (dats m 0 c).Φ t.castSucc = PhiS m c t.val from rfl, hn, show PhiS m c (n + 1) = scratchAt m c (n + 1) from rfl, ← hn]
  unfold scratchAt
  iintro ⟨⟨⟨⟨%x12, %hx, HS0⟩, HS1, HS2, HS3, ⟨%x16, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_step m c t _ _ _ _ x12 (sumGV m c t.val) (sumNV m c t.val) (colV m c) x16 _ _ _ _ _ _ _ _ _
    (fun K => atPass1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (by omega) (by omega) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) x12 (sumGV m c t.val) (sumNV m c t.val) (colV m c) x16 Set.univ K)
    (pass0_7 m c t h d7) (pass0_8 m c t h d8)
    (by rw [leaves0_9 m c t h, after0_9]; unfold dgV; rw [pt_lastOf t h])
    (by rw [leaves0_10 m c t h, after0_10]; unfold dbV; rw [pt_lastOf t h])
    (hx.step m h)
    (sumGV_pass1 m c t h).symm
    (sumNV_pass1 m c t h).symm
    rfl)
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at the first point of the second pass. -/
theorem sound_turn (c : Dev nD) (t : Fin cfg0.N) (h : t.val = 14) :
    bodyPre m c t ⊢ wp frame (wpE (defs₀ (F := I)) Variants.none c none) Set.univ (bodyAt0 t) (fun _ => bodyPost m c t) := by
  unfold bodyPre
  simp only [before0_0, before0_1, before0_2, before0_3, before0_4, before0_5, before0_6]
  have hv := coord_val t
  obtain ⟨n, hn⟩ : ∃ n, t.val = n + 1 := ⟨t.val - 1, by omega⟩
  rw [show (dats m 0 c).Φ t.castSucc = PhiS m c t.val from rfl, hn, show PhiS m c (n + 1) = scratchAt m c (n + 1) from rfl, ← hn]
  unfold scratchAt
  iintro ⟨⟨⟨⟨%x12, %hx, HS0⟩, HS1, HS2, HS3, ⟨%x16, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_step m c t _ _ _ _ x12 (sumGV m c t.val) (sumNV m c t.val) (colV m c) x16 _ _ _ _ _ _ _ _ _
    (fun K => atTurn c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (by omega) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) x12 (sumGV m c t.val) (sumNV m c t.val) (colV m c) x16 Set.univ K)
    (by rw [leaves0_7 m c t (by omega), after0_7]; unfold dxV; rw [sumGV_turn m c t.val h, sumNV_turn m c t.val h, ← hx.read m (by omega)])
    (by rw [leaves0_8 m c t (by omega), after0_8]; unfold dwV; exact .rfl)
    (pass0_9 m c t (by omega) d9) (pass0_10 m c t (by omega) d10)
    (hx.stay m (by omega))
    (sumGV_turn m c t.val h).symm
    (sumNV_turn m c t.val h).symm
    rfl)
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at the other points of the second pass. -/
theorem sound_pass2 (c : Dev nD) (t : Fin cfg0.N) (h : 14 < t.val) :
    bodyPre m c t ⊢ wp frame (wpE (defs₀ (F := I)) Variants.none c none) Set.univ (bodyAt0 t) (fun _ => bodyPost m c t) := by
  unfold bodyPre
  simp only [before0_0, before0_1, before0_2, before0_3, before0_4, before0_5, before0_6]
  have hv := coord_val t
  obtain ⟨n, hn⟩ : ∃ n, t.val = n + 1 := ⟨t.val - 1, by omega⟩
  rw [show (dats m 0 c).Φ t.castSucc = PhiS m c t.val from rfl, hn, show PhiS m c (n + 1) = scratchAt m c (n + 1) from rfl, ← hn]
  unfold scratchAt
  iintro ⟨⟨⟨⟨%x12, %hx, HS0⟩, HS1, HS2, HS3, ⟨%x16, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_step m c t _ _ _ _ x12 (sumGV m c t.val) (sumNV m c t.val) (colV m c) x16 _ _ _ _ _ _ _ _ _
    (fun K => atPass2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (by omega) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) x12 (sumGV m c t.val) (sumNV m c t.val) (colV m c) x16 Set.univ K)
    (by rw [leaves0_7 m c t (by omega), after0_7]; unfold dxV; rw [sumGV_pass2 m c t.val h, sumNV_pass2 m c t.val h, ← hx.read m (by omega)])
    (by rw [leaves0_8 m c t (by omega), after0_8]; unfold dwV; exact .rfl)
    (pass0_9 m c t (by omega) d9) (pass0_10 m c t (by omega) d10)
    (hx.stay m (by omega))
    (sumGV_pass2 m c t.val h).symm
    (sumNV_pass2 m c t.val h).symm
    rfl)
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := I)) Variants.none c none) Set.univ (bodyAt0 t) (fun _ => bodyPost m c t) := by
  rcases Nat.lt_trichotomy t.val 14 with h | h | h
  · by_cases h0 : t.val = 0
    · exact sound_first m c t h0
    · exact sound_pass1 m c t (by omega) h
  · exact sound_turn m c t h
  · exact sound_pass2 m c t h

/-- The body the launch calls is the kernel's. -/
theorem defs₀_row (t : Fin cfg0.N) :
    defs₀ (F := I) .tc cfg0.body (cfg0.bodyArgs t (cfg0.slots t)) = bodyAt0 t := by
  unfold defs₀; rw [Defs.onTc_tc]

/-- What the launch asks of the body. -/
theorem body_obligation (c : Dev nD) : BodyObligation (dats m 0 c) (defs₀ (F := I)) Variants.none () Set.univ := fun t => by
  rw [bigSep_W0, bigSep_W0, defs₀_row]
  exact triple_restated (sound_body m c t) rfl .rfl fun _ => .rfl

/-- The scratch at the end is scratch at some contents. -/
theorem PhiS_out (c : Dev nD) : (dats m 0 c).Φ (Fin.last cfg0.N) ⊢ (Pipeline.ΦA spec0 c : sProp 𝕄) := by
  rw [show (dats m 0 c).Φ (Fin.last cfg0.N) = scratchAt m c 28 from rfl, PhiA0_eq]
  unfold scratchAt
  iintro ⟨⟨⟨%x12, %hx, HS0⟩, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexact HS4
  iexact Hg

/-! ## The run -/

set_option backward.isDefEq.respectTransparency.types false in
set_option maxHeartbeats 800000 in
/-- The run: every array at what the blocks written back make of it, every buffer outside the pipeline as launched, every counter at zero. -/
theorem run_main_quiescent : θ_run defs (onTc (τ := τ) (main (F := I))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := PhiS_out m)

end Cert.KernelIdeal.Hand

end
-- ==== Proof.Spec.lean ====
/- The four gradients as sums over rows and columns. -/
module

public import Idealize.ShloMosaic.Lib.Pipeline.ValueKit

@[expose] public section

noncomputable section

namespace Cert.Spec

open Idealize.ShloMosaic

/-- What both programs read: the input, its rows' scale, mean and reciprocal deviation, the gain and the shift, the weights
    and their columns' scale, and the gradient that comes in. -/
structure Args where
  /-- the input -/
  X : Fin 1536 → Fin 3584 → EReal
  /-- the rows' scale -/
  S : Fin 1536 → EReal
  /-- the rows' mean -/
  M : Fin 1536 → EReal
  /-- the rows' reciprocal deviation -/
  R : Fin 1536 → EReal
  /-- the gain -/
  G : Fin 3584 → EReal
  /-- the shift -/
  B : Fin 3584 → EReal
  /-- the weights -/
  W : Fin 3584 → Fin 4608 → EReal
  /-- the columns' scale -/
  Q : Fin 4608 → EReal
  /-- the gradient that comes in -/
  Y : Fin 1536 → Fin 4608 → EReal

/-- The sequence a row belongs to -/
def seq (r : Fin 1536) : Fin 3 := ⟨r.val / 512, by have := r.isLt; omega⟩

/-- and its place there. -/
def pos (r : Fin 1536) : Fin 512 := ⟨r.val % 512, Nat.mod_lt _ (by decide)⟩

/-- The nine argument arrays, the three sequences' rows counted through. -/
def ofArrays (a0 : Fin 3 → Fin 512 → Fin 3584 → EReal) (a1 a2 a3 : Fin 3 → Fin 512 → EReal) (a4 a5 : Fin 3584 → EReal)
    (a6 : Fin 3584 → Fin 4608 → EReal) (a7 : Fin 4608 → EReal) (a8 : Fin 3 → Fin 512 → Fin 4608 → EReal) : Args where
  X r l := a0 (seq r) (pos r) l
  S r := a1 (seq r) (pos r)
  R r := a2 (seq r) (pos r)
  M r := a3 (seq r) (pos r)
  G l := a4 l
  B l := a5 l
  W l k := a6 l k
  Q k := a7 k
  Y r k := a8 (seq r) (pos r) k

variable (a : Args)

/-- The reciprocal of the row's length, as rounded. -/
def rlen : EReal := Scalar.ofBits (F := Ideal) .f32 0x39924925#32

/-- The normalised input. -/
def nrm (r : Fin 1536) (l : Fin 3584) : EReal := (a.X r l * a.S r - a.M r) * a.R r

/-- The gradient of the normalised, scaled and shifted input. -/
def dout (r : Fin 1536) (l : Fin 3584) : EReal := ∑ k : Fin 4608, a.Y r k * (a.W l k * a.Q k)

/-- The gradient of the gain. -/
def dgain (l : Fin 3584) : EReal := ∑ r : Fin 1536, dout a r l * nrm a r l

/-- The gradient of the shift. -/
def dshift (l : Fin 3584) : EReal := ∑ r : Fin 1536, dout a r l

/-- The gradient of the weights. -/
def dweight (l : Fin 3584) (k : Fin 4608) : EReal := ∑ r : Fin 1536, (nrm a r l * a.G l + a.B l) * a.Y r k

/-- The row's mean of the gradient of the normalised input. -/
def mean1 (r : Fin 1536) : EReal := (∑ l : Fin 3584, dout a r l * a.G l) * rlen

/-- The row's mean of that gradient times the normalised input. -/
def mean2 (r : Fin 1536) : EReal := (∑ l : Fin 3584, dout a r l * a.G l * nrm a r l) * rlen

/-- The gradient of the input. -/
def dinput (r : Fin 1536) (l : Fin 3584) : EReal := a.R r * (dout a r l * a.G l - mean1 a r - nrm a r l * mean2 a r)

end Cert.Spec

end
-- ==== Proof.KParts.lean ====
/- The kernel's blocks as parts of the whole. -/
module

public import proofs.«01_k».proof.Proof.Run
public import proofs.«01_k».proof.Proof.Spec
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

local notation "I" => Idealize.ShloMosaic.Ideal

variable (m : (ℓ : Loc nD τ sig) → Buf (Elt I) ℓ)

/-- Column `l` of block `j`. -/
def gcol (j : Fin 14) (l : Fin 256) : Fin 3584 := ⟨j.val * 256 + l.val, by omega⟩

/-- A row's entry in the table of the rows' numbers. -/
def entry (x2 : Vec I S3x12x128 .f32) (q : Fin 3) (r : Fin 1536) : EReal := x2 (ix3 q ⟨r.val / 128, by omega⟩ ⟨r.val % 128, by omega⟩)

/-- What the kernel reads on core `c`. -/
def argsOf (c : Dev nD) : Spec.Args where
  X r l := V m c main_v5 (ix2 r l)
  S r := entry (V m c main_v4) 0 r
  M r := entry (V m c main_v4) 1 r
  R r := entry (V m c main_v4) 2 r
  G l := V m c main_v6 (ix2 0 l)
  B l := V m c main_v7 (ix2 0 l)
  W l k := V m c main_arg6 (ix2 l k)
  Q k := V m c main_v8 (ix2 0 k)
  Y r k := V m c main_v9 (ix2 r k)

/-! ## The blocks -/

/-- Every window's block index at a point. -/
theorem idx : ∀ t : Fin cfg0.N, win0_0.index t = ![0, t.val % 14] ∧ win0_1.index t = ![0, 0, 0] ∧ win0_2.index t = ![0, t.val % 14] ∧ win0_3.index t = ![0, t.val % 14] ∧ win0_4.index t = ![min t.val 13, 0] ∧ win0_5.index t = ![0, 0] ∧ win0_6.index t = ![0, 0] ∧ win0_7.index t = ![0, t.val - 14] ∧ win0_8.index t = ![t.val - 14, 0] ∧ win0_9.index t = ![0, min t.val 13] ∧ win0_10.index t = ![0, min t.val 13] :=
  (by decide +kernel : ∀ t : Fin grid0.N, _)

/-- The block of columns that both passes work on at a point. -/
def tileOf (t : Fin cfg0.N) : Fin 14 := ⟨t.val % 14, Nat.mod_lt _ (by decide)⟩

/-- Input 0's block: its columns of the input. -/
theorem iblk_0 (c : Dev nD) (t : Fin cfg0.N) (r : Fin 1536) (l : Fin 256) : iblk m c 0 t (ix2 r l) = V m c main_v5 (ix2 r (gcol (tileOf t) l)) := by
  blk_ext! [iblk, idx t, gcol, tileOf]
/-- Input 1's block is its whole array. -/
theorem iblk_1 (c : Dev nD) (t : Fin cfg0.N) : iblk m c 1 t = V m c main_v4 := by
  blk_ext! [iblk, idx t]
/-- Input 2's block: its columns of the gain. -/
theorem iblk_2 (c : Dev nD) (t : Fin cfg0.N) (l : Fin 256) : iblk m c 2 t (ix2 0 l) = V m c main_v6 (ix2 0 (gcol (tileOf t) l)) := by
  blk_ext! [iblk, idx t, gcol, tileOf]
/-- Input 3's block: its columns of the shift. -/
theorem iblk_3 (c : Dev nD) (t : Fin cfg0.N) (l : Fin 256) : iblk m c 3 t (ix2 0 l) = V m c main_v7 (ix2 0 (gcol (tileOf t) l)) := by
  blk_ext! [iblk, idx t, gcol, tileOf]
/-- Input 4's block: its rows of the weights. -/
theorem iblk_4 (c : Dev nD) (t : Fin cfg0.N) (l : Fin 256) (k : Fin 4608) : iblk m c 4 t (ix2 l k) = V m c main_arg6 (ix2 (gcol (lastOf t) l) k) := by
  blk_ext! [iblk, idx t, gcol, lastOf]
/-- Input 5's block is its whole array. -/
theorem iblk_5 (c : Dev nD) (t : Fin cfg0.N) : iblk m c 5 t = V m c main_v8 := by
  blk_ext! [iblk, idx t]
/-- Input 6's block is its whole array. -/
theorem iblk_6 (c : Dev nD) (t : Fin cfg0.N) : iblk m c 6 t = V m c main_v9 := by
  blk_ext! [iblk, idx t]

/-- A point of the first pass works on the block of its number, in either reading. -/
theorem lastOf_pt (j : Fin 14) : lastOf (pt j) = j := Fin.ext (by show min j.val 13 = j.val; omega)
/-- The columns' block is the same. -/
theorem tileOf_pt (j : Fin 14) : tileOf (pt j) = j := Fin.ext (Nat.mod_eq_of_lt j.isLt)
/-- A point of the second pass works on the block of its number less fourteen. -/
theorem tileOf_blk (t : Fin cfg0.N) (h : 14 ≤ t.val) : tileOf t = blkOf t :=
  Fin.ext (by have h2 : t.val < 28 := t.isLt; show t.val % 14 = t.val - 14; omega)

/-! ## What a block computes, as a part of the whole -/

/-- The rows' three numbers. -/
theorem colV_at (c : Dev nD) (q : Fin 3) (r : Fin 1536) (b : Fin 128) : colV m c (ix3 q r b) = entry (V m c main_v4) q r := by
  show colAt (iblk m c 1 (pt 0)) q r b = _
  rw [iblk_1]; rfl

/-- A block's gradient of the normalised, scaled and shifted input. -/
theorem dxh_at (c : Dev nD) (j : Fin 14) (r : Fin 1536) (l : Fin 256) :
    dxhAt (iblk m c 4 (pt j)) (iblk m c 5 (pt j)) (iblk m c 6 (pt j)) r l = Spec.dout (argsOf m c) r (gcol j l) := by
  unfold dxhAt Spec.dout argsOf
  refine Finset.sum_congr rfl fun k _ => ?_
  rw [iblk_4, iblk_5, iblk_6, lastOf_pt]

/-- A block's normalised input. -/
theorem nrm_at (c : Dev nD) (t : Fin cfg0.N) (r : Fin 1536) (l : Fin 256) (b : Fin 128) :
    nrmAt (iblk m c 0 t) (colV m c) r l b = Spec.nrm (argsOf m c) r (gcol (tileOf t) l) := by
  unfold nrmAt Spec.nrm
  rw [iblk_0, colV_at, colV_at, colV_at]; rfl

/-- A block's gradient of the gain. -/
theorem dg_at (c : Dev nD) (j : Fin 14) (l : Fin 256) :
    dgAt (iblk m c 0 (pt j)) (iblk m c 4 (pt j)) (iblk m c 5 (pt j)) (iblk m c 6 (pt j)) (colV m c) l = Spec.dgain (argsOf m c) (gcol j l) := by
  unfold dgAt Spec.dgain
  refine Finset.sum_congr rfl fun r _ => ?_
  rw [dxh_at, nrm_at, tileOf_pt]

/-- A block's gradient of the shift. -/
theorem db_at (c : Dev nD) (j : Fin 14) (l : Fin 256) :
    dbAt (iblk m c 4 (pt j)) (iblk m c 5 (pt j)) (iblk m c 6 (pt j)) l = Spec.dshift (argsOf m c) (gcol j l) := by
  unfold dbAt Spec.dshift
  exact Finset.sum_congr rfl fun r _ => dxh_at m c j r l

/-- A block's gradient of the weights. -/
theorem dw_at (c : Dev nD) (t : Fin cfg0.N) (l : Fin 256) (k : Fin 4608) :
    dwAt (iblk m c 0 t) (iblk m c 2 t) (iblk m c 3 t) (iblk m c 6 t) (colV m c) l k = Spec.dweight (argsOf m c) (gcol (tileOf t) l) k := by
  unfold dwAt Spec.dweight outAt
  refine Finset.sum_congr rfl fun r _ => ?_
  rw [nrm_at, iblk_2, iblk_3, iblk_6]; rfl

end Cert.KernelIdeal.Hand

end
-- ==== Proof.KMeans.lean ====
/- The kernel's running sums, and the two means that they become. -/
module

public import proofs.«01_k».proof.Proof.KParts
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

local notation "I" => Idealize.ShloMosaic.Ideal

variable (m : (ℓ : Loc nD τ sig) → Buf (Elt I) ℓ)

/-! ## The two means -/

/-- A sum over all columns: over the lanes, over the blocks, of the two columns of the block in that lane. -/
theorem sum_cols (f : Fin 3584 → EReal) : ∑ b : Fin 128, ∑ j : Fin 14, (f (gcol j (lo b)) + f (gcol j (hi b))) = ∑ l : Fin 3584, f l := by
  rw [Finset.sum_comm]
  refine Eq.trans ?_ (Fin.sum_mul_add_fin 14 256 f)
  refine Finset.sum_congr rfl fun j _ => ?_
  rw [Finset.sum_add_distrib]
  exact (Fin.sum_univ_add (a := 128) (b := 128) fun l : Fin (128 + 128) => f (gcol j l)).symm

/-- The first running sum after `n` blocks, at a lane. -/
theorem sumG_at (c : Dev nD) (r : Fin 1536) (b : Fin 128) (n : ℕ) (hn : n ≤ 14) :
    sumGV m c n (ix2 r b) = ∑ j : Fin n, (Spec.dout (argsOf m c) r (gcol (j.castLE hn) (lo b)) * (argsOf m c).G (gcol (j.castLE hn) (lo b))
      + Spec.dout (argsOf m c) r (gcol (j.castLE hn) (hi b)) * (argsOf m c).G (gcol (j.castLE hn) (hi b))) := by
  induction n with
  | zero => rfl
  | succ n ih =>
    rw [Fin.sum_univ_castSucc]
    rw [sumGV, dif_pos (show n < 14 by omega)]
    show sumG2 (iblk m c 2 (pt ⟨n, hn⟩)) (iblk m c 4 (pt ⟨n, hn⟩)) (iblk m c 5 (pt ⟨n, hn⟩)) (iblk m c 6 (pt ⟨n, hn⟩)) (sumGV m c n) r b = _
    unfold sumG2 sumG
    rw [dxh_at, dxh_at, iblk_2, iblk_2, tileOf_pt, ih (by omega), add_assoc]
    rfl

/-- The second running sum after `n` blocks, at a lane. -/
theorem sumN_at (c : Dev nD) (r : Fin 1536) (b : Fin 128) (n : ℕ) (hn : n ≤ 14) :
    sumNV m c n (ix2 r b) = ∑ j : Fin n, (Spec.dout (argsOf m c) r (gcol (j.castLE hn) (lo b)) * (argsOf m c).G (gcol (j.castLE hn) (lo b)) * Spec.nrm (argsOf m c) r (gcol (j.castLE hn) (lo b))
      + Spec.dout (argsOf m c) r (gcol (j.castLE hn) (hi b)) * (argsOf m c).G (gcol (j.castLE hn) (hi b)) * Spec.nrm (argsOf m c) r (gcol (j.castLE hn) (hi b))) := by
  induction n with
  | zero => rfl
  | succ n ih =>
    rw [Fin.sum_univ_castSucc]
    rw [sumNV, dif_pos (show n < 14 by omega)]
    show sumN2 (iblk m c 0 (pt ⟨n, hn⟩)) (iblk m c 2 (pt ⟨n, hn⟩)) (iblk m c 4 (pt ⟨n, hn⟩)) (iblk m c 5 (pt ⟨n, hn⟩)) (iblk m c 6 (pt ⟨n, hn⟩)) (colV m c) (sumNV m c n) r b = _
    unfold sumN2 sumN
    rw [dxh_at, dxh_at, nrm_at, nrm_at, iblk_2, iblk_2, tileOf_pt, ih (by omega), add_assoc,
      mul_right_comm (Spec.dout (argsOf m c) r (gcol ⟨n, hn⟩ (lo b))), mul_right_comm (Spec.dout (argsOf m c) r (gcol ⟨n, hn⟩ (hi b)))]
    rfl

/-- After the turn the first sum is the row's first mean, at every lane; -/
theorem meanG_at (c : Dev nD) (n : ℕ) (h : 15 ≤ n) (r : Fin 1536) (b : Fin 128) : sumGV m c n (ix2 r b) = Spec.mean1 (argsOf m c) r := by
  induction n, h using Nat.le_induction with
  | base =>
    rw [sumGV_turn m c 14 rfl]
    show meanAt (sumGV m c 14) r = _
    unfold meanAt Spec.mean1 Spec.rlen
    refine congrArg (· * Scalar.ofBits (F := I) .f32 0x39924925#32) (Eq.trans ?_ (sum_cols fun l => Spec.dout (argsOf m c) r l * (argsOf m c).G l))
    refine Finset.sum_congr rfl fun b _ => (sumG_at m c r b 14 le_rfl).trans ?_
    simp only [Fin.castLE_rfl, id]
  | succ n h ih => rw [sumGV_pass2 m c n (by omega)]; exact ih

/-- and the second sum the row's second mean. -/
theorem meanN_at (c : Dev nD) (n : ℕ) (h : 15 ≤ n) (r : Fin 1536) (b : Fin 128) : sumNV m c n (ix2 r b) = Spec.mean2 (argsOf m c) r := by
  induction n, h using Nat.le_induction with
  | base =>
    rw [sumNV_turn m c 14 rfl]
    show meanAt (sumNV m c 14) r = _
    unfold meanAt Spec.mean2 Spec.rlen
    refine congrArg (· * Scalar.ofBits (F := I) .f32 0x39924925#32) (Eq.trans ?_ (sum_cols fun l => Spec.dout (argsOf m c) r l * (argsOf m c).G l * Spec.nrm (argsOf m c) r l))
    refine Finset.sum_congr rfl fun b _ => (sumN_at m c r b 14 le_rfl).trans ?_
    simp only [Fin.castLE_rfl, id]
  | succ n h ih => rw [sumNV_pass2 m c n (by omega)]; exact ih

/-- A block's gradient of the input. -/
theorem dx_at (c : Dev nD) (t : Fin cfg0.N) (h : 14 ≤ t.val) (r : Fin 1536) (l : Fin 256) :
    dxAt (iblk m c 0 t) (iblk m c 2 t) (dxhV m c (blkOf t)) (sumGV m c (t.val + 1)) (sumNV m c (t.val + 1)) (colV m c) r l
      = Spec.dinput (argsOf m c) r (gcol (blkOf t) l) := by
  unfold dxAt Spec.dinput dxhV
  rw [dxh_at, nrm_at, iblk_2, colV_at, meanG_at m c _ (by omega), meanN_at m c _ (by omega), tileOf_blk t h]; rfl

end Cert.KernelIdeal.Hand

end
-- ==== Proof.KValue.lean ====
/- What the kernel leaves in its four results. -/
module

public import proofs.«01_k».proof.Proof.KMeans
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

local notation "I" => Idealize.ShloMosaic.Ideal

variable (m : (ℓ : Loc nD τ sig) → Buf (Elt I) ℓ)

/-! ## The four results -/

/-- Which points write the blocks of the gradients of the input and of the weights back. -/
theorem late : ∀ t : Fin cfg0.N, (win0_7.flush t = true → 14 ≤ t.val) ∧ (win0_8.flush t = true → 14 ≤ t.val) :=
  (by decide +kernel : ∀ t : Fin grid0.N, (win0_7.flush t = true → 14 ≤ t.val) ∧ (win0_8.flush t = true → 14 ≤ t.val))

/-- The gradient of the input, -/
theorem final7 (c : Dev nD) : (dats m 0 c).arrAt 7 (cfgs 0).N = (fun y => Spec.dinput (argsOf m c) (y 0) (y 1) : Vec I S1536x3584 .bf16) := by
  refine (dats m 0 c).arrAt_eq_of_covers 7 _ (by decide +kernel) fun t hf y => ?_
  have ht := (late t).1 hf
  blk_simp; rw [after0_7]
  have e0 : (win0_7.blk t).view.emb y 0 = ⟨(y 0).val, (y 0).isLt⟩ := Fin.ext (by blk_simp [idx t])
  have e1 : (win0_7.blk t).view.emb y 1 = gcol (blkOf t) ⟨(y 1).val, (y 1).isLt⟩ := Fin.ext (by blk_simp [idx t]; rfl)
  rw [e0, e1]
  exact dx_at m c t ht ⟨(y 0).val, (y 0).isLt⟩ ⟨(y 1).val, (y 1).isLt⟩
/-- of the weights, -/
theorem final8 (c : Dev nD) : (dats m 0 c).arrAt 8 (cfgs 0).N = (fun y => Spec.dweight (argsOf m c) (y 0) (y 1) : Vec I S3584x4608 .f32) := by
  refine (dats m 0 c).arrAt_eq_of_covers 8 _ (by decide +kernel) fun t hf y => ?_
  have ht := (late t).2 hf
  blk_simp; rw [after0_8]
  have e0 : (win0_8.blk t).view.emb y 0 = gcol (blkOf t) ⟨(y 0).val, (y 0).isLt⟩ := Fin.ext (by blk_simp [idx t]; rfl)
  have e1 : (win0_8.blk t).view.emb y 1 = ⟨(y 1).val, (y 1).isLt⟩ := Fin.ext (by blk_simp [idx t])
  rw [e0, e1, ← tileOf_blk t ht]
  exact dw_at m c t ⟨(y 0).val, (y 0).isLt⟩ ⟨(y 1).val, (y 1).isLt⟩
/-- of the gain, -/
theorem final9 (c : Dev nD) : (dats m 0 c).arrAt 9 (cfgs 0).N = (fun y => Spec.dgain (argsOf m c) (y 1) : Vec I S1x3584 .f32) := by
  refine (dats m 0 c).arrAt_eq_of_covers 9 _ (by decide +kernel) fun t hf y => ?_
  blk_simp; rw [after0_9]
  have e1 : (win0_9.blk t).view.emb y 1 = gcol (lastOf t) ⟨(y 1).val, (y 1).isLt⟩ := Fin.ext (by blk_simp [idx t]; rfl)
  rw [e1]
  exact dg_at m c (lastOf t) ⟨(y 1).val, (y 1).isLt⟩
/-- and of the shift. -/
theorem final10 (c : Dev nD) : (dats m 0 c).arrAt 10 (cfgs 0).N = (fun y => Spec.dshift (argsOf m c) (y 1) : Vec I S1x3584 .f32) := by
  refine (dats m 0 c).arrAt_eq_of_covers 10 _ (by decide +kernel) fun t hf y => ?_
  blk_simp; rw [after0_10]
  have e1 : (win0_10.blk t).view.emb y 1 = gcol (lastOf t) ⟨(y 1).val, (y 1).isLt⟩ := Fin.ext (by blk_simp [idx t]; rfl)
  rw [e1]
  exact db_at m c (lastOf t) ⟨(y 1).val, (y 1).isLt⟩

end Cert.KernelIdeal.Hand

end
-- ==== Proof.KReads.lean ====
/- What the kernel reads. -/
module

public import proofs.«01_k».proof.Proof.KParts
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

local notation "I" => Idealize.ShloMosaic.Ideal

variable (m : (ℓ : Loc nD τ sig) → Buf (Elt I) ℓ)

/-- Three tables, one over the other, and a row's entries dealt out again in twelve runs of 128. -/
def stackOf (a0 a1 a2 : Vec I S3x512 .f32) : Vec I S3x12x128 .f32 :=
  shapeCast S3x12x128 (concatenate S3x3x512 0 [⟨S1x3x512, broadcastInDim S1x3x512 ![1, 2] bcast_S3x512_S1x3x512_1_2 a0⟩,
    ⟨S1x3x512, broadcastInDim S1x3x512 ![1, 2] bcast_S3x512_S1x3x512_1_2 a1⟩,
    ⟨S1x3x512, broadcastInDim S1x3x512 ![1, 2] bcast_S3x512_S1x3x512_1_2 a2⟩] concatenates_S1x3x512_S1x3x512_S1x3x512_S3x3x512_d0) shapeCasts_S3x3x512_S3x12x128

/-- The table that the kernel reads is the stack of the scales, the means and the reciprocals of the deviations. -/
theorem table (c : Dev nD) : V m c main_v4 = stackOf (m ((c.tc : Thread nD τ).loc main_arg1)) (m ((c.tc : Thread nD τ).loc main_arg3)) (m ((c.tc : Thread nD τ).loc main_arg2)) := by
  unfold_abbrev_sides
  after_results
  rfl

/-- The stack's first table. -/
theorem stackOf_0 (a0 a1 a2 : Vec I S3x512 .f32) (r : Fin 1536) : entry (stackOf a0 a1 a2) 0 r = a0 (ix2 (Spec.seq r) (Spec.pos r)) := by
  unfold entry
  pointwise [stackOf]
  exact congrArg₂ (fun p q => a0 (ix2 p q)) (Fin.ext (by show r.val / 128 / 4 = r.val / 512; omega)) (Fin.ext (by show r.val / 128 % 4 * 128 + r.val % 128 = r.val % 512; omega))
/-- The stack's second table. -/
theorem stackOf_1 (a0 a1 a2 : Vec I S3x512 .f32) (r : Fin 1536) : entry (stackOf a0 a1 a2) 1 r = a1 (ix2 (Spec.seq r) (Spec.pos r)) := by
  unfold entry
  pointwise [stackOf]
  exact congrArg₂ (fun p q => a1 (ix2 p q)) (Fin.ext (by show r.val / 128 / 4 = r.val / 512; omega)) (Fin.ext (by show r.val / 128 % 4 * 128 + r.val % 128 = r.val % 512; omega))
/-- The stack's third table. -/
theorem stackOf_2 (a0 a1 a2 : Vec I S3x512 .f32) (r : Fin 1536) : entry (stackOf a0 a1 a2) 2 r = a2 (ix2 (Spec.seq r) (Spec.pos r)) := by
  unfold entry
  pointwise [stackOf]
  exact congrArg₂ (fun p q => a2 (ix2 p q)) (Fin.ext (by show r.val / 128 / 4 = r.val / 512; omega)) (Fin.ext (by show r.val / 128 % 4 * 128 + r.val % 128 = r.val % 512; omega))

/-- An array as what its indices give. -/
theorem argsOf_eq (c : Dev nD) : argsOf m c = Spec.ofArrays
    (fun p q l => m ((c.tc : Thread nD τ).loc main_arg0) (ix3 p q l)) (fun p q => m ((c.tc : Thread nD τ).loc main_arg1) (ix2 p q))
    (fun p q => m ((c.tc : Thread nD τ).loc main_arg2) (ix2 p q)) (fun p q => m ((c.tc : Thread nD τ).loc main_arg3) (ix2 p q))
    (fun l => m ((c.tc : Thread nD τ).loc main_arg4) (ix1 l)) (fun l => m ((c.tc : Thread nD τ).loc main_arg5) (ix1 l))
    (fun l k => m ((c.tc : Thread nD τ).loc main_arg6) (ix2 l k)) (fun k => m ((c.tc : Thread nD τ).loc main_arg7) (ix1 k))
    (fun p q k => m ((c.tc : Thread nD τ).loc main_arg8) (ix3 p q k)) := by
  unfold argsOf Spec.ofArrays
  congr 1
  · funext r l; entry_read; pointwise [Spec.seq, Spec.pos]
  · funext r; rw [table]; exact stackOf_0 _ _ _ r
  · funext r; rw [table]; exact stackOf_1 _ _ _ r
  · funext r; rw [table]; exact stackOf_2 _ _ _ r
  · funext r; entry_read; pointwise [Spec.seq, Spec.pos]
  · funext r; entry_read; pointwise [Spec.seq, Spec.pos]
  · funext r; entry_read; pointwise [Spec.seq, Spec.pos]
  · funext r l; entry_read; pointwise [Spec.seq, Spec.pos]

end Cert.KernelIdeal.Hand

end
-- ==== Proof.RValue.lean ====
/- What the reference leaves in its four results. -/
module

public import proofs.«01_k».proof.Proof.Gen.ReferenceIdeal.Frame
public import proofs.«01_k».proof.Proof.Spec
public import Idealize.ShloMosaic.Lib.Claim

@[expose] public section

set_option maxRecDepth 16384

noncomputable section

namespace Cert.ReferenceIdeal.Hand

open Idealize.ShloMosaic Idealize.ShloMosaic.TcCoe Idealize.ShloMosaic.Tactic Idealize.SL.Sem
open Idealize.ShloMosaic.Pipeline (Dat)
open Cert.ReferenceIdeal Cert.ReferenceIdeal.Gen

local notation "I" => Idealize.ShloMosaic.Ideal

/-- What the reference reads, as rows and columns. -/
def args (x0 : Vec I S1536x3584 .fp8e4m3) (x1 x2 x3 : Vec I S1536x1 .f32) (x4 x5 : Vec I S1x3584 .f32) (x6 : Vec I S3584x4608 .fp8e4m3)
    (x7 : Vec I S1x4608 .f32) (x8 : Vec I S1536x4608 .bf16) : Spec.Args where
  X r l := x0 (ix2 r l)
  S r := x1 (ix2 r 0)
  R r := x2 (ix2 r 0)
  M r := x3 (ix2 r 0)
  G l := x4 (ix2 0 l)
  B l := x5 (ix2 0 l)
  W l k := x6 (ix2 l k)
  Q k := x7 (ix2 0 k)
  Y r k := x8 (ix2 r k)

variable (x0 : Vec I S1536x3584 .fp8e4m3) (x1 x2 x3 : Vec I S1536x1 .f32) (x4 x5 : Vec I S1x3584 .f32) (x6 : Vec I S3584x4608 .fp8e4m3)
    (x7 : Vec I S1x4608 .f32) (x8 : Vec I S1536x4608 .bf16)

/-- The normalised input. -/
theorem pay5_at (r : Fin 1536) (l : Fin 3584) : k0_pay5 x0 x1 x3 x2 (ix2 r l) = Spec.nrm (args x0 x1 x2 x3 x4 x5 x6 x7 x8) r l := by
  unfold Spec.nrm args
  pointwise [k0_pay5]

/-- The gradient of the normalised, scaled and shifted input. -/
theorem pay1_at (r : Fin 1536) (l : Fin 3584) : k0_pay1 (k0_pay7 x6 x7) x8 (ix2 r l) = Spec.dout (args x0 x1 x2 x3 x4 x5 x6 x7 x8) r l := by
  unfold Spec.dout args
  pointwise [k0_pay1, k0_pay7]

/-- The gradient of the shift. -/
theorem pay3_at (l : Fin 3584) : k0_pay3 (k0_pay7 x6 x7) x8 (ix2 0 l) = Spec.dshift (args x0 x1 x2 x3 x4 x5 x6 x7 x8) l := by
  unfold Spec.dshift Spec.dout args
  pointwise [k0_pay3, k0_pay1, k0_pay7]

/-- The gradient of the gain. -/
theorem pay2_at (l : Fin 3584) : k0_pay2 (k0_pay5 x0 x1 x3 x2) (k0_pay7 x6 x7) x8 (ix2 0 l) = Spec.dgain (args x0 x1 x2 x3 x4 x5 x6 x7 x8) l := by
  unfold Spec.dgain Spec.dout Spec.nrm args
  pointwise [k0_pay2, k0_pay1, k0_pay7, k0_pay5]

/-- The gradient of the weights. -/
theorem pay6_at (l : Fin 3584) (k : Fin 4608) : k0_pay6 x0 x1 x3 x2 x4 x5 x8 (ix2 l k) = Spec.dweight (args x0 x1 x2 x3 x4 x5 x6 x7 x8) l k := by
  unfold Spec.dweight Spec.nrm args
  pointwise [k0_pay6, k0_pay5]

/-- The gradient of the input. -/
theorem pay4_at (r : Fin 1536) (l : Fin 3584) : k0_pay4 (k0_pay5 x0 x1 x3 x2) (k0_pay7 x6 x7) x8 x4 x2 (ix2 r l) = Spec.dinput (args x0 x1 x2 x3 x4 x5 x6 x7 x8) r l := by
  unfold Spec.dinput Spec.mean1 Spec.mean2 Spec.dout Spec.nrm Spec.rlen args
  pointwise [k0_pay4, k0_pay1, k0_pay7, k0_pay5]

/-- A product that the generated frame names: the scaled weights over what the loads give. -/
theorem pay9_eq : k0_pay9 x0 x1 x2 x3 x4 x5 x6 x7 x8 = k0_pay7 x6 x7 := by
  unfold k0_pay9
  simp (disch := decide) only [r0_4, r0_5, View.ld_unit_lit]
/-- Another: the normalised input. -/
theorem pay8_eq : k0_pay8 x0 x1 x2 x3 x4 x5 x6 x7 x8 = k0_pay5 x0 x1 x3 x2 := by
  unfold k0_pay8
  simp (disch := decide) only [r0_0, r0_1, View.ld_unit_lit]

/-! ## The four results -/

variable (m : (ℓ : Loc nD τ sig) → Buf (Elt I) ℓ)

/-- What the reference reads on core `c`. -/
def argsOf (c : Dev nD) : Spec.Args :=
  args (V m c main_v0) (V m c main_v1) (V m c main_v2) (V m c main_v3) (V m c main_v4) (V m c main_v5) (V m c main_arg6) (V m c main_v6) (V m c main_v7)

/-- Every window's block index at the only point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

/-- Input 0's block is its whole array. -/
theorem iblk_0 (c : Dev nD) : iblk m c 0 t0_0 = V m c main_v0 := by
  blk_ext! [iblk, idx t0_0]
/-- Input 1's block is its whole array. -/
theorem iblk_1 (c : Dev nD) : iblk m c 1 t0_0 = V m c main_v1 := by
  blk_ext! [iblk, idx t0_0]
/-- Input 2's block is its whole array. -/
theorem iblk_2 (c : Dev nD) : iblk m c 2 t0_0 = V m c main_v2 := by
  blk_ext! [iblk, idx t0_0]
/-- Input 3's block is its whole array. -/
theorem iblk_3 (c : Dev nD) : iblk m c 3 t0_0 = V m c main_v3 := by
  blk_ext! [iblk, idx t0_0]
/-- Input 4's block is its whole array. -/
theorem iblk_4 (c : Dev nD) : iblk m c 4 t0_0 = V m c main_v4 := by
  blk_ext! [iblk, idx t0_0]
/-- Input 5's block is its whole array. -/
theorem iblk_5 (c : Dev nD) : iblk m c 5 t0_0 = V m c main_v5 := by
  blk_ext! [iblk, idx t0_0]
/-- Input 6's block is its whole array. -/
theorem iblk_6 (c : Dev nD) : iblk m c 6 t0_0 = V m c main_arg6 := by
  blk_ext! [iblk, idx t0_0]
/-- Input 7's block is its whole array. -/
theorem iblk_7 (c : Dev nD) : iblk m c 7 t0_0 = V m c main_v6 := by
  blk_ext! [iblk, idx t0_0]
/-- Input 8's block is its whole array. -/
theorem iblk_8 (c : Dev nD) : iblk m c 8 t0_0 = V m c main_v7 := by
  blk_ext! [iblk, idx t0_0]

set_option maxHeartbeats 1000000 in
/-- The gradient of the input, -/
theorem final9 (c : Dev nD) : (dats m 0 c).arrAt 9 (cfgs 0).N = (fun y => Spec.dinput (argsOf m c) (y 0) (y 1) : Vec I S1536x3584 .bf16) := by
  refine (dats m 0 c).arrAt_eq_of_after_last 9 t0_0 (by decide +kernel) _ fun j => ?_
  blk_simp; rw [after0_9]; frame_out
  simp only [iblk_0, iblk_1, iblk_2, iblk_3, iblk_4, iblk_5, iblk_6, iblk_7, iblk_8]
  obtain ⟨a, b, rfl⟩ : ∃ a b, j = ix2 a b := ⟨j 0, j 1, by ext k; fin_cases k <;> rfl⟩
  rw [pay8_eq, pay9_eq]
  exact pay4_at (V m c main_v0) (V m c main_v1) (V m c main_v2) (V m c main_v3) (V m c main_v4) (V m c main_v5) (V m c main_arg6) (V m c main_v6) (V m c main_v7) a b
/-- of the weights, -/
theorem final10 (c : Dev nD) : (dats m 0 c).arrAt 10 (cfgs 0).N = (fun y => Spec.dweight (argsOf m c) (y 0) (y 1) : Vec I S3584x4608 .f32) := by
  refine (dats m 0 c).arrAt_eq_of_after_last 10 t0_0 (by decide +kernel) _ fun j => ?_
  blk_simp; rw [after0_10]; frame_out
  simp only [iblk_0, iblk_1, iblk_2, iblk_3, iblk_4, iblk_5, iblk_6, iblk_7, iblk_8]
  obtain ⟨a, b, rfl⟩ : ∃ a b, j = ix2 a b := ⟨j 0, j 1, by ext k; fin_cases k <;> rfl⟩
  exact pay6_at (V m c main_v0) (V m c main_v1) (V m c main_v2) (V m c main_v3) (V m c main_v4) (V m c main_v5) (V m c main_arg6) (V m c main_v6) (V m c main_v7) a b
/-- of the gain, -/
theorem final11 (c : Dev nD) : (dats m 0 c).arrAt 11 (cfgs 0).N = (fun y => Spec.dgain (argsOf m c) (y 1) : Vec I S1x3584 .f32) := by
  refine (dats m 0 c).arrAt_eq_of_after_last 11 t0_0 (by decide +kernel) _ fun j => ?_
  blk_simp; rw [after0_11]; frame_out
  simp only [iblk_0, iblk_1, iblk_2, iblk_3, iblk_4, iblk_5, iblk_6, iblk_7, iblk_8]
  have h0 : (j 0).val < 1 := (j 0).isLt
  obtain ⟨b, rfl⟩ : ∃ b : Fin 3584, j = ix2 (0 : Fin 1) b := ⟨j 1, by ext k; fin_cases k <;> first | rfl | exact Nat.lt_one_iff.mp h0⟩
  rw [pay8_eq, pay9_eq]
  exact pay2_at (V m c main_v0) (V m c main_v1) (V m c main_v2) (V m c main_v3) (V m c main_v4) (V m c main_v5) (V m c main_arg6) (V m c main_v6) (V m c main_v7) b
/-- and of the shift. -/
theorem final12 (c : Dev nD) : (dats m 0 c).arrAt 12 (cfgs 0).N = (fun y => Spec.dshift (argsOf m c) (y 1) : Vec I S1x3584 .f32) := by
  refine (dats m 0 c).arrAt_eq_of_after_last 12 t0_0 (by decide +kernel) _ fun j => ?_
  blk_simp; rw [after0_12]; frame_out
  simp only [iblk_0, iblk_1, iblk_2, iblk_3, iblk_4, iblk_5, iblk_6, iblk_7, iblk_8]
  have h0 : (j 0).val < 1 := (j 0).isLt
  obtain ⟨b, rfl⟩ : ∃ b : Fin 3584, j = ix2 (0 : Fin 1) b := ⟨j 1, by ext k; fin_cases k <;> first | rfl | exact Nat.lt_one_iff.mp h0⟩
  rw [pay9_eq]
  exact pay3_at (V m c main_v0) (V m c main_v1) (V m c main_v2) (V m c main_v3) (V m c main_v4) (V m c main_v5) (V m c main_arg6) (V m c main_v6) (V m c main_v7) b

/-! ## What it reads -/

/-- An array as what its indices give. -/
theorem argsOf_eq (c : Dev nD) : argsOf m c = Spec.ofArrays
    (fun p q l => m ((c.tc : Thread nD τ).loc main_arg0) (ix3 p q l)) (fun p q => m ((c.tc : Thread nD τ).loc main_arg1) (ix2 p q))
    (fun p q => m ((c.tc : Thread nD τ).loc main_arg2) (ix2 p q)) (fun p q => m ((c.tc : Thread nD τ).loc main_arg3) (ix2 p q))
    (fun l => m ((c.tc : Thread nD τ).loc main_arg4) (ix1 l)) (fun l => m ((c.tc : Thread nD τ).loc main_arg5) (ix1 l))
    (fun l k => m ((c.tc : Thread nD τ).loc main_arg6) (ix2 l k)) (fun k => m ((c.tc : Thread nD τ).loc main_arg7) (ix1 k))
    (fun p q k => m ((c.tc : Thread nD τ).loc main_arg8) (ix3 p q k)) := by
  unfold argsOf args Spec.ofArrays
  congr 1
  · funext r l; entry_read; pointwise [Spec.seq, Spec.pos]
  · funext r; entry_read; pointwise [Spec.seq, Spec.pos]
  · funext r; entry_read; pointwise [Spec.seq, Spec.pos]
  · funext r; entry_read; pointwise [Spec.seq, Spec.pos]
  · funext r; entry_read; pointwise [Spec.seq, Spec.pos]
  · funext r; entry_read; pointwise [Spec.seq, Spec.pos]
  · funext r; entry_read; pointwise [Spec.seq, Spec.pos]
  · funext r l; entry_read; pointwise [Spec.seq, Spec.pos]

end Cert.ReferenceIdeal.Hand

end
-- ==== Proof.lean ====
module

public import proofs.«01_k».proof.Defs
public import proofs.«01_k».proof.Proof.KFrame
public import proofs.«01_k».proof.Proof.KValue
public import proofs.«01_k».proof.Proof.KReads
public import proofs.«01_k».proof.Proof.RValue
public import proofs.«01_k».proof.Proof.Gen.ReferenceIdeal.Value
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The kernel over the extended reals ends, its arguments unchanged and its counters at zero. -/
theorem frame_kernel : quiescent_KernelIdeal (hKernelIdeal := Cert.KernelIdeal.Gen.facts) := fun m g _ =>
  θ_run_and (Cert.KernelIdeal.Gen.frame_of m g (Cert.KernelIdeal.Hand.dats m) (Cert.KernelIdeal.Hand.A_eq m)
    ((θ_run _ _ _).mono (fun _ h => h.1) (Cert.KernelIdeal.Hand.run_main_quiescent m g)))
    ((θ_run _ _ _).mono (fun _ h => h.2) (Cert.KernelIdeal.Hand.run_main_quiescent m g))

/-- The kernel's run without its counters. -/
theorem run_kernel (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) (Cert.KernelIdeal.main (F := Ideal))) ⟨m, fun _ => 0, g⟩
      (Pipeline.FramePost Cert.KernelIdeal.cfgs (Cert.KernelIdeal.Hand.dats m) 0 (Cert.KernelIdeal.Gen.V m)) :=
  (θ_run _ _ _).mono (fun _ h => h.1) (Cert.KernelIdeal.Hand.run_main_quiescent m g)

/-- Kernel and reference compute the same function over the extended reals. -/
theorem algebraic : algebraic_KernelIdeal_ReferenceIdeal (hKernelIdeal := Cert.KernelIdeal.Gen.facts) (hReferenceIdeal := Cert.ReferenceIdeal.Gen.facts) := by
  intro m g m' g' hpre hagree
  have key : ∀ c, Cert.ReferenceIdeal.Hand.argsOf m' c = Cert.KernelIdeal.Hand.argsOf m c := fun c => by
    obtain ⟨h0, h1, h2, h3, h4, h5, h6, h7, h8⟩ := hagree c
    rw [Cert.ReferenceIdeal.Hand.argsOf_eq, Cert.KernelIdeal.Hand.argsOf_eq, h0, h1, h2, h3, h4, h5, h6, h7, h8]
  refine ⟨fun c y => Spec.dinput (Cert.KernelIdeal.Hand.argsOf m c) (y 0) (y 1), fun c y => Spec.dweight (Cert.KernelIdeal.Hand.argsOf m c) (y 0) (y 1),
    fun c y => Spec.dgain (Cert.KernelIdeal.Hand.argsOf m c) (y 1), fun c y => Spec.dshift (Cert.KernelIdeal.Hand.argsOf m c) (y 1), ?_, ?_⟩
  · exact (θ_run _ _ _).mono (fun _ h c => ⟨((h.1 c).1 7).trans (Cert.KernelIdeal.Hand.final7 m c), ((h.1 c).1 8).trans (Cert.KernelIdeal.Hand.final8 m c),
      ((h.1 c).1 9).trans (Cert.KernelIdeal.Hand.final9 m c), ((h.1 c).1 10).trans (Cert.KernelIdeal.Hand.final10 m c), h.2.1 c⟩)
      (θ_run_and (run_kernel m g) (frame_kernel m g hpre))
  · exact (θ_run _ _ _).mono (fun _ h c => ⟨((h c).1.trans (Cert.ReferenceIdeal.Hand.final9 m' c)).trans (by rw [key c]; rfl),
      ((h c).2.1.trans (Cert.ReferenceIdeal.Hand.final10 m' c)).trans (by rw [key c]; rfl), ((h c).2.2.1.trans (Cert.ReferenceIdeal.Hand.final11 m' c)).trans (by rw [key c]; rfl),
      ((h c).2.2.2.1.trans (Cert.ReferenceIdeal.Hand.final12 m' c)).trans (by rw [key c]; rfl), (h c).2.2.2.2⟩)
      (Cert.ReferenceIdeal.Value.run_blocks m' g')

/-- The five claims. -/
theorem claim : Cert.Claim := ⟨Cert.Kernel.Gen.facts, Cert.KernelIdeal.Gen.facts, Cert.ReferenceIdeal.Gen.facts,
  fun m g _ => Cert.Kernel.Hand.frame m g, frame_kernel,
  fun m g _ => Cert.ReferenceIdeal.Gen.frame m g, trivial, algebraic⟩

end Cert.Proof

end
